-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![64, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![16384, 1024]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![16384, 1024]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![16384, 1024]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![1024, 16384]⟩ 1 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![1024, 16384]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![1024, 16384]⟩ 1 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![64, 16384]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S2x64x512 : Shape := ⟨3, ![2, 64, 512]⟩
abbrev S15x2x64x512 : Shape := ⟨4, ![15, 2, 64, 512]⟩
abbrev S15x2 : Shape := ⟨2, ![15, 2]⟩
abbrev S_ : Shape := ⟨0, ![]⟩
abbrev S64x1024 : Shape := ⟨2, ![64, 1024]⟩
abbrev S1x64x512 : Shape := ⟨3, ![1, 64, 512]⟩
abbrev S1x1 : Shape := ⟨2, ![1, 1]⟩
abbrev S1x1x64x512 : Shape := ⟨4, ![1, 1, 64, 512]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S64x512, .bf16⟩
  | .hbm, ⟨1, _⟩ => ⟨S512x1024, .bf16⟩
  | .hbm, ⟨2, _⟩ => ⟨S512x1024, .bf16⟩
  | .hbm, ⟨3, _⟩ => ⟨S512x1024, .bf16⟩
  | .hbm, ⟨4, _⟩ => ⟨S1024x512, .bf16⟩
  | .hbm, ⟨5, _⟩ => ⟨S1024x512, .bf16⟩
  | .hbm, ⟨6, _⟩ => ⟨S1024x512, .bf16⟩
  | .hbm, ⟨7, _⟩ => ⟨S64x512, .f32⟩
  | .local _ .vmem, ⟨0, _⟩ => ⟨S64x512, .bf16⟩
  | .local _ .vmem, ⟨1, _⟩ => ⟨S512x1024, .bf16⟩
  | .local _ .vmem, ⟨2, _⟩ => ⟨S1024x512, .bf16⟩
  | .local _ .vmem, ⟨3, _⟩ => ⟨S512x1024, .bf16⟩
  | .local _ .vmem, ⟨4, _⟩ => ⟨S1024x512, .bf16⟩
  | .local _ .vmem, ⟨5, _⟩ => ⟨S512x1024, .bf16⟩
  | .local _ .vmem, ⟨6, _⟩ => ⟨S1024x512, .bf16⟩
  | .local _ .vmem, ⟨7, _⟩ => ⟨S64x512, .f32⟩
  | .local _ .vmem, ⟨8, _⟩ => ⟨S2x64x512, .bf16⟩
  | .local _ .vmem, ⟨9, _⟩ => ⟨S15x2x64x512, .bf16⟩
  | _, _ => ⟨S64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_23 : BitVec 32 := 1#32
  let v34 : BitVec 32 := Scalar.xori v2 c1_i32_23
  let c1_i32_31 : BitVec 32 := 1#32
  let v35 : BitVec 32 := Scalar.muli v34 c1_i32_31
  let v36 : BitVec 32 := Scalar.addi c0_i32_32 v35
  v36.toNat
def k0_dev7 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_37 : BitVec 32 := 1#32
  let v45 : BitVec 32 := Scalar.xori v2 c1_i32_37
  let c1_i32_45 : BitVec 32 := 1#32
  let v46 : BitVec 32 := Scalar.muli v45 c1_i32_45
  let v47 : BitVec 32 := Scalar.addi c0_i32_46 v46
  v47.toNat
def k0_dev8 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_86 : BitVec 32 := 3#32
  let v78 : BitVec 32 := Scalar.xori v2 c3_i32_86
  let c1_i32_94 : BitVec 32 := 1#32
  let v79 : BitVec 32 := Scalar.muli v78 c1_i32_94
  let v80 : BitVec 32 := Scalar.addi c0_i32_95 v79
  v80.toNat
def k0_dev9 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_135 : BitVec 32 := 3#32
  let v111 : BitVec 32 := Scalar.xori v2 c3_i32_135
  let c1_i32_143 : BitVec 32 := 1#32
  let v112 : BitVec 32 := Scalar.muli v111 c1_i32_143
  let v113 : BitVec 32 := Scalar.addi c0_i32_144 v112
  v113.toNat
def k0_dev10 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_184 : BitVec 32 := 4#32
  let v144 : BitVec 32 := Scalar.xori v2 c4_i32_184
  let c1_i32_191 : BitVec 32 := 1#32
  let v145 : BitVec 32 := Scalar.muli v144 c1_i32_191
  let v146 : BitVec 32 := Scalar.addi c0_i32_192 v145
  v146.toNat
def k0_dev11 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_232 : BitVec 32 := 4#32
  let v177 : BitVec 32 := Scalar.xori v2 c4_i32_232
  let c1_i32_240 : BitVec 32 := 1#32
  let v178 : BitVec 32 := Scalar.muli v177 c1_i32_240
  let v179 : BitVec 32 := Scalar.addi c0_i32_241 v178
  v179.toNat
def k0_dev12 (d0 : Dev nD) : Nat :=
  let c0_i32_289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_280 : BitVec 32 := 8#32
  let v210 : BitVec 32 := Scalar.xori v2 c8_i32_280
  let c1_i32_288 : BitVec 32 := 1#32
  let v211 : BitVec 32 := Scalar.muli v210 c1_i32_288
  let v212 : BitVec 32 := Scalar.addi c0_i32_289 v211
  v212.toNat
def k0_dev13 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_329 : BitVec 32 := 8#32
  let v243 : BitVec 32 := Scalar.xori v2 c8_i32_329
  let c1_i32_337 : BitVec 32 := 1#32
  let v244 : BitVec 32 := Scalar.muli v243 c1_i32_337
  let v245 : BitVec 32 := Scalar.addi c0_i32_338 v244
  v245.toNat
def k0_dev14 (d0 : Dev nD) : Nat :=
  let c0_i32_386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_377 : BitVec 32 := 16#32
  let v276 : BitVec 32 := Scalar.xori v2 c16_i32_377
  let c1_i32_385 : BitVec 32 := 1#32
  let v277 : BitVec 32 := Scalar.muli v276 c1_i32_385
  let v278 : BitVec 32 := Scalar.addi c0_i32_386 v277
  v278.toNat
def k0_dev15 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_426 : BitVec 32 := 16#32
  let v309 : BitVec 32 := Scalar.xori v2 c16_i32_426
  let c1_i32_434 : BitVec 32 := 1#32
  let v310 : BitVec 32 := Scalar.muli v309 c1_i32_434
  let v311 : BitVec 32 := Scalar.addi c0_i32_435 v310
  v311.toNat
def k0_dev16 (d0 : Dev nD) : Nat :=
  let c0_i32_539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_530 : BitVec 32 := 1#32
  let v393 : BitVec 32 := Scalar.xori v2 c1_i32_530
  let c1_i32_538 : BitVec 32 := 1#32
  let v394 : BitVec 32 := Scalar.muli v393 c1_i32_538
  let v395 : BitVec 32 := Scalar.addi c0_i32_539 v394
  v395.toNat
def k0_dev17 (d0 : Dev nD) : Nat :=
  let c0_i32_553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_544 : BitVec 32 := 1#32
  let v404 : BitVec 32 := Scalar.xori v2 c1_i32_544
  let c1_i32_552 : BitVec 32 := 1#32
  let v405 : BitVec 32 := Scalar.muli v404 c1_i32_552
  let v406 : BitVec 32 := Scalar.addi c0_i32_553 v405
  v406.toNat
def k0_dev18 (d0 : Dev nD) : Nat :=
  let c0_i32_600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_592 : BitVec 32 := 3#32
  let v437 : BitVec 32 := Scalar.xori v2 c3_i32_592
  let c1_i32_599 : BitVec 32 := 1#32
  let v438 : BitVec 32 := Scalar.muli v437 c1_i32_599
  let v439 : BitVec 32 := Scalar.addi c0_i32_600 v438
  v439.toNat
def k0_dev19 (d0 : Dev nD) : Nat :=
  let c0_i32_649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_640 : BitVec 32 := 3#32
  let v470 : BitVec 32 := Scalar.xori v2 c3_i32_640
  let c1_i32_648 : BitVec 32 := 1#32
  let v471 : BitVec 32 := Scalar.muli v470 c1_i32_648
  let v472 : BitVec 32 := Scalar.addi c0_i32_649 v471
  v472.toNat
def k0_dev20 (d0 : Dev nD) : Nat :=
  let c0_i32_696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_688 : BitVec 32 := 4#32
  let v503 : BitVec 32 := Scalar.xori v2 c4_i32_688
  let c1_i32_695 : BitVec 32 := 1#32
  let v504 : BitVec 32 := Scalar.muli v503 c1_i32_695
  let v505 : BitVec 32 := Scalar.addi c0_i32_696 v504
  v505.toNat
def k0_dev21 (d0 : Dev nD) : Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_736 : BitVec 32 := 4#32
  let v536 : BitVec 32 := Scalar.xori v2 c4_i32_736
  let c1_i32_744 : BitVec 32 := 1#32
  let v537 : BitVec 32 := Scalar.muli v536 c1_i32_744
  let v538 : BitVec 32 := Scalar.addi c0_i32_745 v537
  v538.toNat
def k0_dev22 (d0 : Dev nD) : Nat :=
  let c0_i32_793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_784 : BitVec 32 := 8#32
  let v569 : BitVec 32 := Scalar.xori v2 c8_i32_784
  let c1_i32_792 : BitVec 32 := 1#32
  let v570 : BitVec 32 := Scalar.muli v569 c1_i32_792
  let v571 : BitVec 32 := Scalar.addi c0_i32_793 v570
  v571.toNat
def k0_dev23 (d0 : Dev nD) : Nat :=
  let c0_i32_842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_833 : BitVec 32 := 8#32
  let v602 : BitVec 32 := Scalar.xori v2 c8_i32_833
  let c1_i32_841 : BitVec 32 := 1#32
  let v603 : BitVec 32 := Scalar.muli v602 c1_i32_841
  let v604 : BitVec 32 := Scalar.addi c0_i32_842 v603
  v604.toNat
def k0_dev24 (d0 : Dev nD) : Nat :=
  let c0_i32_889 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_881 : BitVec 32 := 16#32
  let v635 : BitVec 32 := Scalar.xori v2 c16_i32_881
  let c1_i32_888 : BitVec 32 := 1#32
  let v636 : BitVec 32 := Scalar.muli v635 c1_i32_888
  let v637 : BitVec 32 := Scalar.addi c0_i32_889 v636
  v637.toNat
def k0_dev25 (d0 : Dev nD) : Nat :=
  let c0_i32_938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_929 : BitVec 32 := 16#32
  let v668 : BitVec 32 := Scalar.xori v2 c16_i32_929
  let c1_i32_937 : BitVec 32 := 1#32
  let v669 : BitVec 32 := Scalar.muli v668 c1_i32_937
  let v670 : BitVec 32 := Scalar.addi c0_i32_938 v669
  v670.toNat
def k0_dev26 (d0 : Dev nD) : Nat :=
  let c0_i32_1041 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1033 : BitVec 32 := 1#32
  let v752 : BitVec 32 := Scalar.xori v2 c1_i32_1033
  let c1_i32_1040 : BitVec 32 := 1#32
  let v753 : BitVec 32 := Scalar.muli v752 c1_i32_1040
  let v754 : BitVec 32 := Scalar.addi c0_i32_1041 v753
  v754.toNat
def k0_dev27 (d0 : Dev nD) : Nat :=
  let c0_i32_1055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1046 : BitVec 32 := 1#32
  let v763 : BitVec 32 := Scalar.xori v2 c1_i32_1046
  let c1_i32_1054 : BitVec 32 := 1#32
  let v764 : BitVec 32 := Scalar.muli v763 c1_i32_1054
  let v765 : BitVec 32 := Scalar.addi c0_i32_1055 v764
  v765.toNat
def k0_dev28 (d0 : Dev nD) : Nat :=
  let c0_i32_1102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1094 : BitVec 32 := 3#32
  let v796 : BitVec 32 := Scalar.xori v2 c3_i32_1094
  let c1_i32_1101 : BitVec 32 := 1#32
  let v797 : BitVec 32 := Scalar.muli v796 c1_i32_1101
  let v798 : BitVec 32 := Scalar.addi c0_i32_1102 v797
  v798.toNat
def k0_dev29 (d0 : Dev nD) : Nat :=
  let c0_i32_1151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1142 : BitVec 32 := 3#32
  let v829 : BitVec 32 := Scalar.xori v2 c3_i32_1142
  let c1_i32_1150 : BitVec 32 := 1#32
  let v830 : BitVec 32 := Scalar.muli v829 c1_i32_1150
  let v831 : BitVec 32 := Scalar.addi c0_i32_1151 v830
  v831.toNat
def k0_dev30 (d0 : Dev nD) : Nat :=
  let c0_i32_1198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1190 : BitVec 32 := 4#32
  let v862 : BitVec 32 := Scalar.xori v2 c4_i32_1190
  let c1_i32_1197 : BitVec 32 := 1#32
  let v863 : BitVec 32 := Scalar.muli v862 c1_i32_1197
  let v864 : BitVec 32 := Scalar.addi c0_i32_1198 v863
  v864.toNat
def k0_dev31 (d0 : Dev nD) : Nat :=
  let c0_i32_1247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1238 : BitVec 32 := 4#32
  let v895 : BitVec 32 := Scalar.xori v2 c4_i32_1238
  let c1_i32_1246 : BitVec 32 := 1#32
  let v896 : BitVec 32 := Scalar.muli v895 c1_i32_1246
  let v897 : BitVec 32 := Scalar.addi c0_i32_1247 v896
  v897.toNat
def k0_dev32 (d0 : Dev nD) : Nat :=
  let c0_i32_1294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1286 : BitVec 32 := 8#32
  let v928 : BitVec 32 := Scalar.xori v2 c8_i32_1286
  let c1_i32_1293 : BitVec 32 := 1#32
  let v929 : BitVec 32 := Scalar.muli v928 c1_i32_1293
  let v930 : BitVec 32 := Scalar.addi c0_i32_1294 v929
  v930.toNat
def k0_dev33 (d0 : Dev nD) : Nat :=
  let c0_i32_1343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1334 : BitVec 32 := 8#32
  let v961 : BitVec 32 := Scalar.xori v2 c8_i32_1334
  let c1_i32_1342 : BitVec 32 := 1#32
  let v962 : BitVec 32 := Scalar.muli v961 c1_i32_1342
  let v963 : BitVec 32 := Scalar.addi c0_i32_1343 v962
  v963.toNat
def k0_dev34 (d0 : Dev nD) : Nat :=
  let c0_i32_1390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1382 : BitVec 32 := 16#32
  let v994 : BitVec 32 := Scalar.xori v2 c16_i32_1382
  let c1_i32_1389 : BitVec 32 := 1#32
  let v995 : BitVec 32 := Scalar.muli v994 c1_i32_1389
  let v996 : BitVec 32 := Scalar.addi c0_i32_1390 v995
  v996.toNat
def k0_dev35 (d0 : Dev nD) : Nat :=
  let c0_i32_1439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1430 : BitVec 32 := 16#32
  let v1027 : BitVec 32 := Scalar.xori v2 c16_i32_1430
  let c1_i32_1438 : BitVec 32 := 1#32
  let v1028 : BitVec 32 := Scalar.muli v1027 c1_i32_1438
  let v1029 : BitVec 32 := Scalar.addi c0_i32_1439 v1028
  v1029.toNat
abbrev stage0_0 : Fin 1 → Memref sig .tc .vmem S64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x16384 : Shape := ⟨2, ![64, 16384]⟩
abbrev S16384x1024 : Shape := ⟨2, ![16384, 1024]⟩
abbrev S1024x16384 : Shape := ⟨2, ![1024, 16384]⟩
abbrev S64x1024 : Shape := ⟨2, ![64, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S64x16384, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S1024x16384, .bf16⟩
  | .hbm, ⟨5, _⟩ => ⟨S1024x16384, .bf16⟩
  | .hbm, ⟨6, _⟩ => ⟨S1024x16384, .bf16⟩
  | .hbm, ⟨7, _⟩ => ⟨S64x1024, .f32⟩
  | .hbm, ⟨8, _⟩ => ⟨S_, .f32⟩
  | .hbm, ⟨9, _⟩ => ⟨S64x1024, .f32⟩
  | .hbm, ⟨10, _⟩ => ⟨S64x1024, .f32⟩
  | .hbm, ⟨11, _⟩ => ⟨S64x1024, .bf16⟩
  | .hbm, ⟨12, _⟩ => ⟨S64x16384, .f32⟩
  | .hbm, ⟨13, _⟩ => ⟨S64x16384, .bf16⟩
  | .hbm, ⟨14, _⟩ => ⟨S64x1024, .f32⟩
  | .hbm, ⟨15, _⟩ => ⟨S_, .f32⟩
  | .hbm, ⟨16, _⟩ => ⟨S64x1024, .f32⟩
  | .hbm, ⟨17, _⟩ => ⟨S64x1024, .f32⟩
  | .hbm, ⟨18, _⟩ => ⟨S64x1024, .bf16⟩
  | .hbm, ⟨19, _⟩ => ⟨S64x16384, .f32⟩
  | .hbm, ⟨20, _⟩ => ⟨S64x16384, .bf16⟩
  | .hbm, ⟨21, _⟩ => ⟨S64x1024, .f32⟩
  | .hbm, ⟨22, _⟩ => ⟨S_, .f32⟩
  | .hbm, ⟨23, _⟩ => ⟨S64x1024, .f32⟩
  | .hbm, ⟨24, _⟩ => ⟨S64x1024, .f32⟩
  | .hbm, ⟨25, _⟩ => ⟨S64x1024, .bf16⟩
  | .hbm, ⟨26, _⟩ => ⟨S64x16384, .f32⟩
  | _, _ => ⟨S64x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.KernelIdeal.Model.lean ====
/-
# The kernel's body as a loop

The printed body writes out the thirty transfers of the all-reduce one by one. Here the same program is written with
the transfer's number `n` as a variable: `n = 10 * layer + 2 * step + half`. Transfer `n` sends half `n % 2` of the
send buffer into slot `(n / 2, n % 2)` of the partner's landing buffer, and the partner of step `n / 2 % 5` is the
device whose number differs by the mask of that step. `body_eq` says that the printed body is this program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open Idealize.SL.Sem

variable {F : FTy → Type} [FloatOps F]

/-! ## The buffers, slots and semaphores of transfer `n` -/

/-- The send buffer: two halves of 64×512. -/
abbrev sM : Memref sig .tc .vmem S2x64x512 .bf16 := Memref.whole cc0_scratch0
/-- The landing buffer: fifteen steps of two halves. -/
abbrev rM : Memref sig .tc .vmem S15x2x64x512 .bf16 := Memref.whole cc0_scratch1

theorem s_inb (n : ℕ) : ∀ a, (![n % 2, 0, 0] : Fin 3 → Nat) a + S1x64x512.size a ≤ S2x64x512.size a := by
  have h : ∀ k : Fin 2, ∀ a, (![k.val, 0, 0] : Fin 3 → Nat) a + S1x64x512.size a ≤ S2x64x512.size a := by decide
  exact h ⟨n % 2, Nat.mod_lt _ (by decide)⟩
theorem r_inb (n : ℕ) : ∀ a, (![n / 2 % 15, n % 2, 0, 0] : Fin 4 → Nat) a + S1x1x64x512.size a ≤ S15x2x64x512.size a := by
  have h : ∀ (i : Fin 15) (k : Fin 2), ∀ a, (![i.val, k.val, 0, 0] : Fin 4 → Nat) a + S1x1x64x512.size a ≤ S15x2x64x512.size a := by decide
  exact h ⟨n / 2 % 15, Nat.mod_lt _ (by decide)⟩ ⟨n % 2, Nat.mod_lt _ (by decide)⟩
theorem m_inb (n : ℕ) : ∀ a, (![n / 2 % 15, n % 2] : Fin 2 → Nat) a + S1x1.size a ≤ S15x2.size a := by
  have h : ∀ (i : Fin 15) (k : Fin 2), ∀ a, (![i.val, k.val] : Fin 2 → Nat) a + S1x1.size a ≤ S15x2.size a := by decide
  exact h ⟨n / 2 % 15, Nat.mod_lt _ (by decide)⟩ ⟨n % 2, Nat.mod_lt _ (by decide)⟩

abbrev sRect (n : ℕ) : Rect S2x64x512 := Rect.unit (s := S2x64x512) ![n % 2, 0, 0] S1x64x512.size (s_inb n)
abbrev rRect (n : ℕ) : Rect S15x2x64x512 := Rect.unit (s := S15x2x64x512) ![n / 2 % 15, n % 2, 0, 0] S1x1x64x512.size (r_inb n)

theorem s_words (n : ℕ) : (sRect n).WholeWords (EltTy.packing .bf16) := by
  have h : ∀ (k : Fin 2) (hb : ∀ a, (![k.val, 0, 0] : Fin 3 → Nat) a + S1x64x512.size a ≤ S2x64x512.size a),
      (Rect.unit (s := S2x64x512) ![k.val, 0, 0] S1x64x512.size hb).WholeWords (EltTy.packing .bf16) := by decide
  exact h ⟨n % 2, Nat.mod_lt _ (by decide)⟩ _
theorem s_packed (n : ℕ) : (sRect n).PackedRows (EltTy.packing .bf16) := by
  have h : ∀ (k : Fin 2) (hb : ∀ a, (![k.val, 0, 0] : Fin 3 → Nat) a + S1x64x512.size a ≤ S2x64x512.size a),
      (Rect.unit (s := S2x64x512) ![k.val, 0, 0] S1x64x512.size hb).PackedRows (EltTy.packing .bf16) := by decide
  exact h ⟨n % 2, Nat.mod_lt _ (by decide)⟩ _
theorem r_words (n : ℕ) : (rRect n).WholeWords (EltTy.packing .bf16) := by
  have h : ∀ (i : Fin 15) (k : Fin 2) (hb : ∀ a, (![i.val, k.val, 0, 0] : Fin 4 → Nat) a + S1x1x64x512.size a ≤ S15x2x64x512.size a),
      (Rect.unit (s := S15x2x64x512) ![i.val, k.val, 0, 0] S1x1x64x512.size hb).WholeWords (EltTy.packing .bf16) := by decide
  exact h ⟨n / 2 % 15, Nat.mod_lt _ (by decide)⟩ ⟨n % 2, Nat.mod_lt _ (by decide)⟩ _

/-- The half of the send buffer that transfer `n` reads, and the slot of the landing buffer that it fills. -/
abbrev sSlot (n : ℕ) : Memref sig .tc .vmem S64x512 .bf16 :=
  (sM.slice (sRect n) (fun _ => rfl)).squeeze S64x512 squeezes_S1x64x512_S64x512
abbrev rSlot (n : ℕ) : Memref sig .tc .vmem S64x512 .bf16 :=
  (rM.slice (rRect n) (fun _ => rfl)).squeeze S64x512 squeezes_S1x1x64x512_S64x512

theorem s_exact (n : ℕ) : (sSlot n).view.WordExact :=
  ((Memref.isWhole_whole cc0_scratch0).wordExact_slice rfl _ (s_words n)).reshape _ _
theorem r_exact (n : ℕ) : (rSlot n).view.WordExact :=
  ((Memref.isWhole_whole cc0_scratch1).wordExact_slice rfl _ (r_words n)).reshape _ _

/-- Transfer `n`'s semaphore on the sender and on the receiver. -/
abbrev sSem (n : ℕ) : DmaSem sig :=
  ((cc0_scratch2.slice (Rect.unit (s := S15x2) ![n / 2 % 15, n % 2] S1x1.size (m_inb n))).squeeze S_ squeezes_S1x1_S_ : DmaSems sig S_).sem
abbrev rSem (n : ℕ) : DmaSem sig :=
  ((cc0_scratch3.slice (Rect.unit (s := S15x2) ![n / 2 % 15, n % 2] S1x1.size (m_inb n))).squeeze S_ squeezes_S1x1_S_ : DmaSems sig S_).sem
/-- The semaphore of the entry handshake. -/
abbrev barS : Sem sig := (SemArray.scalar (sig.barrier 0 rfl) : Sems sig S_).sem

/-! ## The partners -/

/-- The mask of each step. -/
def mask : Fin 5 → Fin 32 := ![1, 3, 4, 8, 16]
/-- The device that `c` exchanges with in a step: its number with the mask's bits flipped. -/
def pair (s : Fin 5) (c : Dev nD) : Dev nD := ⟨(c.val ^^^ (mask s).val) % 32, Nat.mod_lt _ (by decide)⟩

theorem pair_pair (s : Fin 5) (c : Dev nD) : pair s (pair s c) = c := by
  have h : ∀ (s : Fin 5) (c : Fin 32), pair s (pair s c) = c := by decide +kernel
  exact h s c
theorem pair_inj {s s' : Fin 5} {c : Dev nD} (h : pair s c = pair s' c) : s = s' := by
  have h' : ∀ (s s' : Fin 5) (c : Fin 32), pair s c = pair s' c → s = s' := by decide +kernel
  exact h' s s' c h

/-- The step of transfer `n`. -/
def stepOf (n : ℕ) : Fin 5 := ⟨n / 2 % 5, Nat.mod_lt _ (by decide)⟩
/-- The partner of transfer `n`. -/
def peer (n : ℕ) (c : Dev nD) : Dev nD := pair (stepOf n) c

theorem peer_peer (n : ℕ) (c : Dev nD) : peer n (peer n c) = c := pair_pair _ c

/-- The device of the `j`th signal of the handshake, as the kernel computes it. -/
def sigDev (c : Dev nD) : ℕ → Dev nD
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | _ => ⟨k0_dev5 c, k0_dev5_lt c⟩

/-- The device that transfer `n` is addressed to, as the kernel computes it. -/
def dstDev (c : Dev nD) : ℕ → Dev nD
  | 0 => ⟨k0_dev6 c, k0_dev6_lt c⟩ | 1 => ⟨k0_dev7 c, k0_dev7_lt c⟩ | 2 => ⟨k0_dev8 c, k0_dev8_lt c⟩ | 3 => ⟨k0_dev9 c, k0_dev9_lt c⟩
  | 4 => ⟨k0_dev10 c, k0_dev10_lt c⟩ | 5 => ⟨k0_dev11 c, k0_dev11_lt c⟩ | 6 => ⟨k0_dev12 c, k0_dev12_lt c⟩ | 7 => ⟨k0_dev13 c, k0_dev13_lt c⟩
  | 8 => ⟨k0_dev14 c, k0_dev14_lt c⟩ | 9 => ⟨k0_dev15 c, k0_dev15_lt c⟩ | 10 => ⟨k0_dev16 c, k0_dev16_lt c⟩ | 11 => ⟨k0_dev17 c, k0_dev17_lt c⟩
  | 12 => ⟨k0_dev18 c, k0_dev18_lt c⟩ | 13 => ⟨k0_dev19 c, k0_dev19_lt c⟩ | 14 => ⟨k0_dev20 c, k0_dev20_lt c⟩ | 15 => ⟨k0_dev21 c, k0_dev21_lt c⟩
  | 16 => ⟨k0_dev22 c, k0_dev22_lt c⟩ | 17 => ⟨k0_dev23 c, k0_dev23_lt c⟩ | 18 => ⟨k0_dev24 c, k0_dev24_lt c⟩ | 19 => ⟨k0_dev25 c, k0_dev25_lt c⟩
  | 20 => ⟨k0_dev26 c, k0_dev26_lt c⟩ | 21 => ⟨k0_dev27 c, k0_dev27_lt c⟩ | 22 => ⟨k0_dev28 c, k0_dev28_lt c⟩ | 23 => ⟨k0_dev29 c, k0_dev29_lt c⟩
  | 24 => ⟨k0_dev30 c, k0_dev30_lt c⟩ | 25 => ⟨k0_dev31 c, k0_dev31_lt c⟩ | 26 => ⟨k0_dev32 c, k0_dev32_lt c⟩ | 27 => ⟨k0_dev33 c, k0_dev33_lt c⟩
  | 28 => ⟨k0_dev34 c, k0_dev34_lt c⟩ | _ => ⟨k0_dev35 c, k0_dev35_lt c⟩

set_option maxRecDepth 100000 in
theorem sigDev_eq (s : Fin 5) (c : Dev nD) : sigDev c s.val = pair s c := by
  have h : ∀ (s : Fin 5) (c : Fin 32), sigDev c s.val = pair s c := by decide +kernel
  exact h s c
set_option maxRecDepth 100000 in
theorem dstDev_eq {n : ℕ} (hn : n < 30) (c : Dev nD) : dstDev c n = peer n c := by
  have h : ∀ (n : Fin 30) (c : Fin 32), dstDev c n.val = peer n.val c := by decide +kernel
  exact h ⟨n, hn⟩ c

/-! ## The arithmetic -/

/-- One step's sum, as the kernel stores it: the half held and the half landed. -/
def sumP (a : Vec F S1x64x512 .bf16) (b : Vec F S1x1x64x512 .bf16) : FVec F S1x64x512 .bf16 :=
  shapeCast S1x64x512 (addf (shapeCast S64x512 a shapeCasts_S1x64x512_S64x512 : FVec F S64x512 .bf16)
    (shapeCast S64x512 b shapeCasts_S1x1x64x512_S64x512)) shapeCasts_S64x512_S1x64x512

/-- A device's share of `x @ Win`. -/
def partP (x : FVec F S64x512 .bf16) (w : Vec F S512x1024 .bf16) : FVec F S64x1024 .f32 :=
  matmul dot_S64x512_S512x1024_S64x1024_1_0_0_1_n_n none x (shapeCast S512x1024 w shapeCasts_S512x1024_S512x1024)
    (constant S64x1024 .f32 0x00000000#32)
/-- Its two halves, rounded. -/
def half0 (p : FVec F S64x1024 .f32) : FVec F S64x512 .bf16 :=
  truncf .bf16 (extractStridedSlice S64x512 ![0, 0] p slices_S64x1024_o0_0_S64x512) bitsLt_bf16_f32
def half1 (p : FVec F S64x1024 .f32) : FVec F S64x512 .bf16 :=
  truncf .bf16 (extractStridedSlice S64x512 ![0, 512] p slices_S64x1024_o0_512_S64x512) bitsLt_bf16_f32
/-- A half as it is stored. -/
def stored (v : FVec F S64x512 .bf16) : FVec F S1x64x512 .bf16 := shapeCast S1x64x512 v shapeCasts_S64x512_S1x64x512
/-- A half as it is read back. -/
def held (a : Vec F S1x64x512 .bf16) : FVec F S64x512 .bf16 := shapeCast S64x512 a shapeCasts_S1x64x512_S64x512
/-- Negative entries replaced by zero. -/
def relu (v : FVec F S64x512 .bf16) : FVec F S64x512 .bf16 := maximumf v (broadcast S64x512 (Scalar.ofBits .bf16 0x0000#16))
/-- The layer's output block from the two halves of the sum. -/
def outP (a b : FVec F S64x512 .bf16) (w : Vec F S1024x512 .bf16) : FVec F S64x512 .f32 :=
  addf
    (matmul dot_S64x512_S512x512_S64x512_1_0_0_1_n_n none (relu a)
      (extractStridedSlice S512x512 ![0, 0] (shapeCast S1024x512 w shapeCasts_S1024x512_S1024x512 : FVec F S1024x512 .bf16) slices_S1024x512_o0_0_S512x512)
      (constant S64x512 .f32 0x00000000#32))
    (matmul dot_S64x512_S512x512_S64x512_1_0_0_1_n_n none (relu b)
      (extractStridedSlice S512x512 ![512, 0] (shapeCast S1024x512 w shapeCasts_S1024x512_S1024x512 : FVec F S1024x512 .bf16) slices_S1024x512_o512_0_S512x512)
      (constant S64x512 .f32 0x00000000#32))
def narrow (o : FVec F S64x512 .f32) : FVec F S64x512 .bf16 := truncf .bf16 o bitsLt_bf16_f32
def entryX (x : Vec F S64x512 .bf16) : FVec F S64x512 .bf16 := shapeCast S64x512 x shapeCasts_S64x512_S64x512

/-! ## The program -/

abbrev P (F : FTy → Type) [FloatOps F] (α : Type) := Prog (TpuEff nD τ sig (Elt F) Λ₀ .tc) α

def loadS (n : ℕ) : P F (Vec F S1x64x512 .bf16) :=
  Prog.lift (.load sM (sRect n).toLoadRect (View.loadsAt_vmem h_S1x64x512))
def loadR (n : ℕ) : P F (Vec F S1x1x64x512 .bf16) :=
  Prog.lift (.load rM (rRect n).toLoadRect (View.loadsAt_vmem h_S1x1x64x512))
def storeS (n : ℕ) (v : FVec F S1x64x512 .bf16) : P F PUnit :=
  Prog.lift (.store sM (sRect n) v Finset.univ
    (View.stores_vmem h_S1x64x512 ((Memref.isWhole_whole cc0_scratch0).storeExact_slice rfl _ (s_packed n)) (fun _ => rfl)) (.inl rfl))

/-- Transfer `n` is started. -/
def issue (d : Dev nD) (n : ℕ) : P F PUnit :=
  Prog.lift (.enqueueDma (sSlot n) (.remote (Dev.tc (dstDev d n)) (rSlot n) (.dma (sSem n))) (.dma (rSem n)) (s_exact n) (r_exact n)
    ⟨⟨rfl, Or.inl rfl⟩, trivial⟩)

/-- Transfer `n` is waited for, on both sides, and the landed half is added to the half that was sent. -/
def finish (n : ℕ) : P F PUnit := do
  Prog.lift (.waitDma2 (sSem n) (rSlot n) (sSlot n) (r_exact n) (s_exact n))
  Prog.lift (.waitDma2 (rSem n) (sSlot n) (rSlot n) (s_exact n) (r_exact n))
  let a ← loadS n
  let b ← loadR n
  let _ ← loadS (F := F) n
  storeS n (sumP a b)

/-- `k` rounds: finish one transfer, start the one after next. -/
def rounds (d : Dev nD) : ℕ → ℕ → P F PUnit
  | _, 0 => pure ⟨⟩
  | n, k + 1 => do finish n; issue d (n + 2); rounds d (n + 1) k

/-- The exchange of one layer: `n = 10 * layer`. -/
def exchange (d : Dev nD) (n : ℕ) (p : FVec F S64x1024 .f32) : P F PUnit := do
  let _ ← loadS (F := F) n
  storeS n (stored (half0 p))
  let _ ← loadS (F := F) (n + 1)
  storeS (n + 1) (stored (half1 p))
  issue d n
  issue d (n + 1)
  rounds d n 8
  finish (n + 8)
  finish (n + 9)

def loadWin (M : Memref sig .tc .vmem S512x1024 .bf16) : P F (Vec F S512x1024 .bf16) :=
  Prog.lift (.load M (Rect.unit (s := S512x1024) ![0, 0] S512x1024.size inb_S512x1024_S512x1024_0_0).toLoadRect (View.loadsAt_vmem h_S512x1024))
def loadWout (M : Memref sig .tc .vmem S1024x512 .bf16) : P F (Vec F S1024x512 .bf16) :=
  Prog.lift (.load M (Rect.unit (s := S1024x512) ![0, 0] S1024x512.size inb_S1024x512_S1024x512_0_0).toLoadRect (View.loadsAt_vmem h_S1024x512))

/-- The whole body on device `d`: the handshake, three layers, the last one's output stored. -/
def steps (d : Dev nD) : P F PUnit := do
  semSignalWord (sigDev d 0) barS 1#32
  semSignalWord (sigDev d 1) barS 1#32
  semSignalWord (sigDev d 2) barS 1#32
  semSignalWord (sigDev d 3) barS 1#32
  semSignalWord (sigDev d 4) barS 1#32
  semWaitWord barS 5#32
  let x ← (Prog.lift (.load (Memref.whole cc0_stg0_0 : Memref sig .tc .vmem S64x512 .bf16)
    (Rect.unit (s := S64x512) ![0, 0] S64x512.size inb_S64x512_S64x512_0_0).toLoadRect (View.loadsAt_vmem h_S64x512)) : P F _)
  let w0 ← loadWin (F := F) (Memref.whole cc0_stg1_0)
  exchange d 0 (partP (entryX x) w0)
  let a0 ← loadS (F := F) 0
  let b0 ← loadS (F := F) 1
  let u0 ← loadWout (F := F) (Memref.whole cc0_stg2_0)
  let w1 ← loadWin (F := F) (Memref.whole cc0_stg3_0)
  exchange d 10 (partP (narrow (outP (held a0) (held b0) u0)) w1)
  let a1 ← loadS (F := F) 0
  let b1 ← loadS (F := F) 1
  let u1 ← loadWout (F := F) (Memref.whole cc0_stg4_0)
  let w2 ← loadWin (F := F) (Memref.whole cc0_stg5_0)
  exchange d 20 (partP (narrow (outP (held a1) (held b1) u1)) w2)
  let a2 ← loadS (F := F) 0
  let b2 ← loadS (F := F) 1
  let u2 ← loadWout (F := F) (Memref.whole cc0_stg6_0)
  let _ ← (Prog.lift (.load (Memref.whole cc0_stg7_0 : Memref sig .tc .vmem S64x512 .f32)
    (Rect.unit (s := S64x512) ![0, 0] S64x512.size inb_S64x512_S64x512_0_0).toLoadRect (View.loadsAt_vmem h_S64x512)) : P F _)
  Prog.lift (.store (Memref.whole cc0_stg7_0 : Memref sig .tc .vmem S64x512 .f32) (Rect.unit (s := S64x512) ![0, 0] S64x512.size inb_S64x512_S64x512_0_0)
    (outP (held a2) (held b2) u2) Finset.univ (View.stores_vmem_bits_univ h_S64x512 rfl) (.inl rfl))

/-- The printed body, at the staging and scratch buffers it is run on. -/
abbrev printed (F : FTy → Type) [FloatOps F] : P F PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _) cc0_scratch2 cc0_scratch3

set_option maxRecDepth 1000000 in
set_option maxHeartbeats 4000000 in
theorem body_eq : printed F = (do let d ← Prog.lift .deviceId; steps d) := by
  unfold printed
  rw [cc0_body_eq_skeleton]
  rfl

end Cert.KernelIdeal.AllReduce

end
-- ==== Proof.KernelIdeal.Protocol.lean ====
/-
# The protocol: who signals, copies and waits, and what each landing hands over

Per device: one barrier cell, and for each transfer `n < 30` a send cell and a receive cell, one round each.

* The barrier cell has five duties of one unit, one per partner; the partner of step `s` pays duty `s` and hands over
  those six slots of its own landing buffer that this device will write.
* The send cell of transfer `n` is paid by the device's own transfer and hands the send half back, at the contents sent.
* The receive cell of transfer `n` is paid by the partner's transfer and hands over the landing slot, at the contents
  that the partner sent.

`V n c` is what device `c` sends in transfer `n`.
-/
module

public import proofs.«01_k».proof.Proof.KernelIdeal.Model

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy of the rounds and the all-reduce's, whose duties are the five steps -/

abbrev UX : Type := URounds (GSem nD τ sig) (Fin 5)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## Cells -/

abbrev barCell (c : Dev nD) : GSem nD τ sig := ((c : Thread nD τ), .reg barS)
abbrev sendCell (c : Dev nD) (n : ℕ) : GSem nD τ sig := ((c : Thread nD τ), .dma (sSem n))
abbrev recvCell (c : Dev nD) (n : ℕ) : GSem nD τ sig := ((c : Thread nD τ), .dma (rSem n))

theorem sSem_val {n : ℕ} (hn : n < 30) : (sSem n).val = 8 + n := by
  have h : ∀ k : Fin 30, (sSem k.val).val = 8 + k.val := by decide +kernel
  exact h ⟨n, hn⟩
theorem rSem_val {n : ℕ} (hn : n < 30) : (rSem n).val = 38 + n := by
  have h : ∀ k : Fin 30, (rSem k.val).val = 38 + k.val := by decide +kernel
  exact h ⟨n, hn⟩

/-- What one transfer adds to its two semaphores. -/
@[irreducible] def N : ℕ := (rSlot 0).view.dmaCredit
theorem N_pos : 0 < N := by unfold N; exact View.dmaCredit_pos _ (by decide)
theorem credit_r (n : ℕ) : (rSlot n).view.dmaCredit = N := by unfold N; rfl
theorem credit_s (n : ℕ) : (sSlot n).view.dmaCredit = N := by unfold N; rfl

/-! ## Slots -/

/-- Half `n % 2` of the send buffer of `c`, holding `v`. -/
def sPts (c : Dev nD) (n : ℕ) (v : FVec F S64x512 .bf16) : sProp 𝕄 := owns (c : Thread nD τ) (sSlot n) fullShare v
/-- Slot `n` of the landing buffer of `c`, holding `v`. -/
def rPts (c : Dev nD) (n : ℕ) (v : FVec F S64x512 .bf16) : sProp 𝕄 := owns (c : Thread nD τ) (rSlot n) fullShare v
/-- The same slot at any contents. -/
def rAny (c : Dev nD) (n : ℕ) : sProp 𝕄 := iprop(∃ v, rPts c n v)

omit [FloatOps F] in
instance sPts_storable (c : Dev nD) (n : ℕ) (v) : BI.Storable (upEmb : UEmb _ 𝕄) (sPts (F := F) c n v) := by unfold sPts; infer_instance
omit [FloatOps F] in
instance rPts_storable (c : Dev nD) (n : ℕ) (v) : BI.Storable (upEmb : UEmb _ 𝕄) (rPts (F := F) c n v) := by unfold rPts; infer_instance
omit [FloatOps F] in
instance rAny_storable (c : Dev nD) (n : ℕ) : BI.Storable (upEmb : UEmb _ 𝕄) (rAny (F := F) c n) := by unfold rAny; infer_instance

/-! ## The schedule -/

/-- The transfers of step `s`. -/
def ofStep (s : Fin 5) : Finset ℕ := (Finset.range 30).filter fun n => stepOf n = s

/-- What the partner of step `s` hands over with its signal. -/
def barPay (c : Dev nD) (s : Fin 5) : sProp 𝕄 := bigSep (ofStep s) fun n => rAny (F := F) (pair s c) n

omit [FloatOps F] in
instance barPay_storable (c : Dev nD) (s : Fin 5) : BI.Storable (upEmb : UEmb _ 𝕄) (barPay (F := F) c s) := by unfold barPay; infer_instance

variable (V : ℕ → Dev nD → FVec F S64x512 .bf16)

def xRd : Rounds.Schedule (GSem nD τ sig) (Fin 5) 𝕄 where
  duties g r := if r = 0 ∧ g.1.2 = .tc then
      (match g.2 with
        | .reg q => if q = barS then Finset.univ else ∅
        | .dma q => if 8 ≤ q.val ∧ q.val < 68 then {0} else ∅)
    else ∅
  unitless _ := False
  amount g _ _ := match g.2 with | .reg _ => 1 | .dma _ => N
  payload g _ d := match g.2 with
    | .reg _ => barPay g.1.1 d
    | .dma q => if q.val < 38 then sPts g.1.1 (q.val - 8) (V (q.val - 8) g.1.1)
        else rPts g.1.1 (q.val - 38) (V (q.val - 38) (peer (q.val - 38) g.1.1))
  amount_pos g _ _ _ := by
    rcases g.2 with q | q
    · exact Nat.one_pos
    · exact N_pos

instance xRd_storable (g : GSem nD τ sig) (r : ℕ) (d : Fin 5) :
    BI.Storable (upEmb : UEmb _ 𝕄) ((xRd (F := F) V).payload g r d) := by
  obtain ⟨t, q | q⟩ := g
  · dsimp only [xRd]; infer_instance
  · dsimp only [xRd]; split <;> infer_instance

section Sched
variable (c : Dev nD) {n : ℕ} (hn : n < 30)

omit [FloatOps F] in
theorem duties_bar : (xRd (F := F) V).duties (barCell c) 0 = Finset.univ := by
  dsimp only [xRd]; rw [if_pos ⟨rfl, rfl⟩, if_pos rfl]
omit [FloatOps F] in
include hn in
theorem duties_send : (xRd (F := F) V).duties (sendCell c n) 0 = {0} := by
  dsimp only [xRd]; rw [if_pos ⟨rfl, rfl⟩]; exact if_pos (by rw [sSem_val hn]; omega)
omit [FloatOps F] in
include hn in
theorem duties_recv : (xRd (F := F) V).duties (recvCell c n) 0 = {0} := by
  dsimp only [xRd]; rw [if_pos ⟨rfl, rfl⟩]; exact if_pos (by rw [rSem_val hn]; omega)
omit [FloatOps F] in
theorem duties_later (g : GSem nD τ sig) : ∀ r, 1 ≤ r → (xRd (F := F) V).duties g r = ∅ :=
  fun r hr => by dsimp only [xRd]; rw [if_neg fun h => by omega]

omit [FloatOps F] in
theorem expect_bar : (xRd (F := F) V).expect (barCell c) 0 = 5 := by
  unfold Schedule.expect Schedule.amountOf
  rw [duties_bar]; exact Finset.sum_const_nat (m := 1) (fun _ _ => rfl)
omit [FloatOps F] in
include hn in
theorem expect_send : (xRd (F := F) V).expect (sendCell c n) 0 = N := by
  unfold Schedule.expect Schedule.amountOf; rw [duties_send V c hn, Finset.sum_singleton]; rfl
omit [FloatOps F] in
include hn in
theorem expect_recv : (xRd (F := F) V).expect (recvCell c n) 0 = N := by
  unfold Schedule.expect Schedule.amountOf; rw [duties_recv V c hn, Finset.sum_singleton]; rfl

omit [FloatOps F] in
theorem payload_bar (d : Fin 5) : (xRd (F := F) V).payload (barCell c) 0 d = barPay c d := rfl
omit [FloatOps F] in
include hn in
theorem payload_send (d : Fin 5) : (xRd (F := F) V).payload (sendCell c n) 0 d = sPts c n (V n c) := by
  dsimp only [xRd]; rw [sSem_val hn, if_pos (by omega), Nat.add_sub_cancel_left]
omit [FloatOps F] in
include hn in
theorem payload_recv (d : Fin 5) : (xRd (F := F) V).payload (recvCell c n) 0 d = rPts c n (V n (peer n c)) := by
  dsimp only [xRd]; rw [rSem_val hn, if_neg (by omega), Nat.add_sub_cancel_left]

omit [FloatOps F] in
include hn in
theorem rest_send : bigSep ((xRd (F := F) V).duties (sendCell c n) 0 \ ∅) (fun d => (xRd (F := F) V).payload (sendCell c n) 0 d) = sPts c n (V n c) := by
  rw [Finset.sdiff_empty, duties_send V c hn, bigSep_singleton, payload_send V c hn]
omit [FloatOps F] in
include hn in
theorem rest_recv : bigSep ((xRd (F := F) V).duties (recvCell c n) 0 \ ∅) (fun d => (xRd (F := F) V).payload (recvCell c n) 0 d) = rPts c n (V n (peer n c)) := by
  rw [Finset.sdiff_empty, duties_recv V c hn, bigSep_singleton, payload_recv V c hn]

omit [FloatOps F] in
/-- A sum over the transfers, step by step. -/
theorem by_step (Φ : ℕ → sProp 𝕄) : bigSep (Finset.range 30) Φ = bigSep Finset.univ fun s : Fin 5 => bigSep (ofStep s) Φ := by
  have h : Finset.range 30 = Finset.univ.biUnion ofStep := by
    ext n; simp only [ofStep, Finset.mem_biUnion, Finset.mem_filter, Finset.mem_univ, true_and, exists_and_left, exists_eq', and_true]
  rw [h]
  exact bigSep_biUnion_eq _ _ _ (fun s _ s' _ hne => Finset.disjoint_left.mpr fun n h1 h2 =>
    hne ((Finset.mem_filter.mp h1).2.symm.trans (Finset.mem_filter.mp h2).2))

omit [FloatOps F] in
/-- What the barrier wait hands over: of every partner the slots this device writes. -/
theorem rest_bar : bigSep ((xRd (F := F) V).duties (barCell c) 0 \ ∅) (fun d => (xRd (F := F) V).payload (barCell c) 0 d)
    = bigSep (Finset.range 30) fun n => rAny (F := F) (peer n c) n := by
  rw [Finset.sdiff_empty, duties_bar, by_step]
  refine bigSep_congr fun s _ => ?_
  rw [payload_bar]; unfold barPay
  refine bigSep_congr fun n hn' => ?_
  unfold peer; rw [(Finset.mem_filter.mp hn').2]

end Sched

/-! ## What a device owes, payment by payment, and the levels of the cells -/

/-- Payment `p`: the five signals, then the thirty transfers. -/
def payCell (c : Dev nD) (p : ℕ) : GSem nD τ sig :=
  if h : p < 5 then barCell (pair ⟨p, h⟩ c) else recvCell (peer (p - 5) c) (p - 5)
def payAmt (p : ℕ) : ℕ := if p < 5 then 1 else N
/-- What is owed before payment `j`. -/
def owe (c : Dev nD) (j : ℕ) : CellTallies nD τ sig Unit := ∑ p ∈ Finset.Ico j 35, tallyAt (payCell c p) () (payAmt p)

theorem owe_step (c : Dev nD) {j : ℕ} (hj : j < 35) : owe c j = owe c (j + 1) + tallyAt (payCell c j) () (payAmt j) := by
  unfold owe
  rw [show Finset.Ico j 35 = insert j (Finset.Ico (j + 1) 35) by ext x; simp only [Finset.mem_Ico, Finset.mem_insert]; omega,
    Finset.sum_insert (by rw [Finset.mem_Ico]; omega), add_comm]

theorem owe_end (c : Dev nD) : owe c 35 = 0 := by unfold owe; rw [Finset.Ico_self, Finset.sum_empty]
theorem owe_sig (c : Dev nD) (s : Fin 5) : owe c s.val = owe c (s.val + 1) + tallyAt (barCell (pair s c)) () 1 := by
  rw [owe_step c (by omega)]
  unfold payCell payAmt; rw [dif_pos s.isLt, if_pos s.isLt]
theorem owe_send (c : Dev nD) {n : ℕ} (hn : n < 30) : owe c (n + 5) = owe c (n + 6) + tallyAt (recvCell (peer n c) n) () N := by
  rw [owe_step c (by omega)]
  unfold payCell payAmt; rw [dif_neg (by omega), if_neg (by omega), Nat.add_sub_cancel]

def L (g : GSem nD τ sig) : Finset Unit := if g.1.2 = .tc then {()} else ∅
/-- Staging and send cells lowest, then the barrier, then the receive cells in the order of the steps. -/
def lv (g : GSem nD τ sig) (_ : Unit) : ℕ := match g.2 with
  | .reg _ => 1
  | .dma q => if q.val < 38 then 0 else 2 + (q.val - 38) / 2
/-- The level of payment `p`'s cell. -/
def payLv (p : ℕ) : ℕ := if p < 5 then 1 else 2 + (p - 5) / 2

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_recv (c : Dev nD) {n : ℕ} (hn : n < 30) : lv (recvCell c n) () = 2 + n / 2 := by
  dsimp only [lv]; rw [rSem_val hn, if_neg (by omega), Nat.add_sub_cancel_left]

theorem lv_pay (c : Dev nD) {p : ℕ} (hp : p < 35) : lv (payCell c p) () = payLv p := by
  unfold payCell payLv; split
  · rfl
  · exact lv_recv _ (by omega)

theorem owe_pos {c : Dev nD} {j : ℕ} {g : GSem nD τ sig} {u : Unit} (h : 0 < owe c j g u) : ∃ p, j ≤ p ∧ p < 35 ∧ g = payCell c p := by
  by_contra hn
  have : owe c j g u = 0 := by
    unfold owe
    rw [Finset.sum_apply, Finsupp.finset_sum_apply]
    refine Finset.sum_eq_zero fun p hp => ?_
    rw [Finset.mem_Ico] at hp
    rw [tallyAt_apply, if_neg fun h' => hn ⟨p, hp.1, hp.2, h'.1⟩]
  omega

theorem L_pay (c : Dev nD) (p : ℕ) : L (payCell c p) = {()} := by
  unfold payCell; split <;> exact L_tc _ _

omit [FloatOps F] in
/-- A wait is allowed when every payment still to come lies above the cell waited on. -/
theorem mayWait (c : Dev nD) (sm : SemLoc sig) (j b : ℕ) (hb : lv ((c : Thread nD τ), sm) () ≤ b)
    (hj : ∀ p, j ≤ p → p < 35 → b < payLv p) :
    (levAts L lv : sProp 𝕄) ⊢ MayWait (c : Thread nD τ) sm () (owe c j) :=
  MayOwe.of_cut (L := L) (lev := lv) b (fun p hp => by rw [Finset.mem_singleton.mp hp, L_tc]; exact Finset.mem_singleton_self _)
    (fun g u hg => by obtain ⟨p, -, -, rfl⟩ := owe_pos hg; rw [L_pay]; exact Finset.mem_singleton_self _)
    (fun p hp => by rw [Finset.mem_singleton.mp hp]; exact hb)
    (fun g u hg => by obtain ⟨p, h1, h2, rfl⟩ := owe_pos hg; rw [lv_pay c h2]; exact hj p h1 h2)

end Cert.KernelIdeal.AllReduce

end
-- ==== Proof.KernelIdeal.Moves.lean ====
/-
# The moves of the body: a half read or stored, a transfer started, a transfer finished

Each lemma takes the state before a piece of the program and the continuation from the state after it.
-/
module

public import proofs.«01_k».proof.Proof.KernelIdeal.Protocol
public import Idealize.ShloMosaic.Lib.Pipeline.Value

@[expose] public section

set_option maxRecDepth 10000

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a piece of device `c`'s body. -/
abbrev W (c : Dev nD) {α : Type} (p : P F α) (Q : α → sProp 𝕄) : sProp 𝕄 :=
  wp frame (wpE (defs₀ (F := F)) 𝒱₀ (c : Thread nD τ) none) Set.univ p Q

/-! ## The halves of the send buffer and the landing slots -/

theorem s_sub (n : ℕ) : (sM.view.setOn (sRect n).toLoadRect.set : Finset _) ⊆ (sSlot n).view.set := by
  rw [Memref.set_view_squeeze, View.set_slice]; exact Finset.Subset.refl _
theorem s_sub' (n : ℕ) : ((sM.access (sRect n)).setOn Finset.univ : Finset _) ⊆ (sSlot n).view.set := by
  rw [Memref.set_view_squeeze]; exact Finset.Subset.refl _
theorem r_sub (n : ℕ) : (rM.view.setOn (rRect n).toLoadRect.set : Finset _) ⊆ (rSlot n).view.set := by
  rw [Memref.set_view_squeeze, View.set_slice]; exact Finset.Subset.refl _

/-- A landed half as it is read. -/
def landedAt (b : Vec F S1x1x64x512 .bf16) : FVec F S64x512 .bf16 := shapeCast S64x512 b shapeCasts_S1x1x64x512_S64x512

theorem sumP_eq (a : Vec F S1x64x512 .bf16) (b : Vec F S1x1x64x512 .bf16) : sumP a b = stored (addf (held a) (landedAt b)) := rfl

theorem wp_loadS (c : Dev nD) (n : ℕ) (v : FVec F S64x512 .bf16) (Q : Vec F S1x64x512 .bf16 → sProp 𝕄) :
    sPts c n v ⊢ iprop((∀ a, ⌜held a = v⌝ -∗ sPts c n v -∗ Q a) -∗ W c (loadS n) Q) := by
  unfold sPts owns loadS
  iintro ⟨%f, %hf, H⟩ Hk
  iapply (wp_load 𝒱₀ (c : Thread nD τ) none Set.univ (m := sM) (s_sub n)) $$ H; iintro H
  rw [wp_ret]; imodintro
  iapply Hk $$ %(sM.view.readAt (Elt F) (sRect n).toLoadRect f) [] [H]
  · ipureintro; rw [← hf]; rfl
  · iexists f; isplitr; · (ipureintro; exact hf)
    iexact H

theorem wp_loadR (c : Dev nD) (n : ℕ) (v : FVec F S64x512 .bf16) (Q : Vec F S1x1x64x512 .bf16 → sProp 𝕄) :
    rPts c n v ⊢ iprop((∀ a, ⌜landedAt a = v⌝ -∗ rPts c n v -∗ Q a) -∗ W c (loadR n) Q) := by
  unfold rPts owns loadR
  iintro ⟨%f, %hf, H⟩ Hk
  iapply (wp_load 𝒱₀ (c : Thread nD τ) none Set.univ (m := rM) (r_sub n)) $$ H; iintro H
  rw [wp_ret]; imodintro
  iapply Hk $$ %(rM.view.readAt (Elt F) (rRect n).toLoadRect f) [] [H]
  · ipureintro; rw [← hf]; rfl
  · iexists f; isplitr; · (ipureintro; exact hf)
    iexact H

theorem wp_storeS (c : Dev nD) (n : ℕ) (v w : FVec F S64x512 .bf16) (Q : PUnit → sProp 𝕄) :
    sPts c n v ⊢ iprop((sPts c n w -∗ Q ⟨⟩) -∗ W c (storeS n (stored w)) Q) := by
  unfold sPts owns storeS
  iintro ⟨%f, %hf, H⟩ Hk
  iapply (wp_store 𝒱₀ (c : Thread nD τ) none Set.univ (m := sM) (r := sRect n) (Mk := Finset.univ) (s_sub' n)) $$ H; iintro H
  rw [wp_ret]; imodintro
  iapply Hk
  iexists ((sM.access (sRect n)).write (Elt F) f (stored w) Finset.univ)
  isplitr
  · ipureintro
    have h : (sM.access (sRect n)).read (Elt F) ((sM.access (sRect n)).write (Elt F) f (stored w) Finset.univ) = stored w :=
      View.read_write_univ _ _
    exact (congrArg held h).trans (shapeCast_shapeCast w _ _)
  · iexact H

/-! ## What a device knows and holds -/

variable (V : ℕ → Dev nD → FVec F S64x512 .bf16)

omit [FloatOps F] in
theorem elim {I : Type} [DecidableEq I] {s : Finset I} {Φ : I → sProp 𝕄} {i : I} (h : i ∈ s) : bigSep s Φ ⊢ Φ i := bigSep_elim h

/-- A cell's invariant, under some name, and that its first round is open. -/
def rec (g : GSem nD τ sig) : sProp 𝕄 := iprop(∃ κ, cellInv EX (xRd V) κ g ∗ reached EX g 0)
instance rec_persistent (g : GSem nD τ sig) : BI.Persistent (rec V g) := by unfold rec; infer_instance

def recs (c : Dev nD) : sProp 𝕄 :=
  iprop(rec V (barCell c) ∗ (bigSep (Finset.range 30) fun n => rec V (sendCell c n)) ∗ (bigSep (Finset.range 30) fun n => rec V (recvCell c n)))
instance recs_persistent (c : Dev nD) : BI.Persistent (recs V c) := by unfold recs; infer_instance

/-- Every cell's invariant, and the levels. -/
def know : sProp 𝕄 := iprop((bigSep Finset.univ fun c => recs V c) ∗ (levAts L lv : sProp 𝕄))
instance know_persistent : BI.Persistent (know V) := by unfold know; infer_instance

theorem know_recs (c : Dev nD) : know V ⊢ recs V c := by
  unfold know; iintro ⟨H, -⟩; iapply (elim (Φ := fun c => recs V c) (Finset.mem_univ c)) $$ H
theorem know_bar (c : Dev nD) : know V ⊢ rec V (barCell c) := by
  refine (know_recs V c).trans ?_; unfold recs; iintro ⟨H, -, -⟩; iexact H
theorem know_send (c : Dev nD) {n : ℕ} (hn : n < 30) : know V ⊢ rec V (sendCell c n) := by
  refine (know_recs V c).trans ?_; unfold recs; iintro ⟨-, H, -⟩; iapply (elim (Φ := fun n => rec V (sendCell c n)) (Finset.mem_range.mpr hn)) $$ H
theorem know_recv (c : Dev nD) {n : ℕ} (hn : n < 30) : know V ⊢ rec V (recvCell c n) := by
  refine (know_recs V c).trans ?_; unfold recs; iintro ⟨-, -, H⟩; iapply (elim (Φ := fun n => rec V (recvCell c n)) (Finset.mem_range.mpr hn)) $$ H

theorem know_wait (c : Dev nD) (sm : SemLoc sig) (j b : ℕ) (hb : lv ((c : Thread nD τ), sm) () ≤ b)
    (hj : ∀ p, j ≤ p → p < 35 → b < payLv p) : know V ⊢ MayWait (c : Thread nD τ) sm () (owe c j) := by
  unfold know; iintro ⟨-, H⟩; iapply (mayWait c sm j b hb hj); iexact H
theorem know_send_wait (c : Dev nD) {n : ℕ} (hn : n < 30) (j : ℕ) (hj : ∀ p, j ≤ p → p < 35 → 0 < payLv p) :
    know V ⊢ MayWait (c : Thread nD τ) (.dma (sSem n)) () (owe c j) :=
  know_wait V c _ j 0 (by dsimp only [lv]; rw [sSem_val hn, if_pos (by omega)]) hj
theorem know_recv_wait (c : Dev nD) {n : ℕ} (hn : n < 30) (j : ℕ) (hj : ∀ p, j ≤ p → p < 35 → 2 + n / 2 < payLv p) :
    know V ⊢ MayWait (c : Thread nD τ) (.dma (rSem n)) () (owe c j) :=
  know_wait V c _ j (2 + n / 2) (le_of_eq (lv_recv c hn)) hj
theorem know_bar_wait (c : Dev nD) : know V ⊢ MayWait (c : Thread nD τ) (.reg barS) () (owe c 5) :=
  know_wait V c _ 5 1 (le_of_eq (lv_bar c)) (fun p h1 h2 => by unfold payLv; rw [if_neg (by omega)]; omega)

/-- What device `c` still owes, from payment `j` on. -/
def ow (c : Dev nD) (j : ℕ) : sProp 𝕄 := iprop(∃ w, owes (c : Thread nD τ) (owe c j) w)

/-- What starting transfer `n` takes besides the half sent: the partner's slot and the two rights to pay. -/
def pend (c : Dev nD) (n : ℕ) : sProp 𝕄 :=
  iprop(rAny (F := F) (peer n c) n ∗ dutyTok EX (sendCell c n) 0 0 ∗ dutyTok EX (recvCell (peer n c) n) 0 0)
/-- What waiting for transfer `n` takes besides that it was started. -/
def wait (c : Dev nD) (n : ℕ) : sProp 𝕄 :=
  iprop(atPos EX (sendCell c n) 0 ∅ 0 ∗ atPos EX (recvCell c n) 0 ∅ 0 ∗ cred (tallyAt (recvCell c n) () N))
/-- Transfer `n` is on its way. -/
def flight (c : Dev nD) (n : ℕ) : sProp 𝕄 := cred (tallyAt (sendCell c n) () N)
/-- Transfer `n` is finished. -/
def fin (c : Dev nD) (n : ℕ) : sProp 𝕄 :=
  iprop(semVal (sendCell c n) 0 ∗ semVal (recvCell c n) 0 ∗ rAny (F := F) c n)

/-! ## Starting a transfer -/

set_option maxHeartbeats 1000000 in
theorem wp_issue_to (c d : Dev nD) {n : ℕ} (hn : n < 30) (hd : d = peer n c) (Q : PUnit → sProp 𝕄) :
    iprop(know V ∗ sPts c n (V n c) ∗ pend c n ∗ ow c (n + 5))
      ⊢ iprop(((flight c n ∗ ow c (n + 6)) -∗ Q ⟨⟩) -∗ W c
        (Prog.lift (.enqueueDma (sSlot n) (.remote (Dev.tc d) (rSlot n) (.dma (sSem n))) (.dma (rSem n)) (s_exact n) (r_exact n)
          ⟨⟨rfl, Or.inl rfl⟩, trivial⟩)) Q) := by
  subst hd
  unfold pend ow rAny sPts rPts owns
  iintro ⟨#Hkn, ⟨%f, %hf, Hs⟩, ⟨⟨%v, %g, %hg, Hr⟩, HtS, HtR⟩, ⟨%w, HO⟩⟩ Hk
  ihave HS := know_send V c hn $$ Hkn
  ihave HR := know_recv V (peer n c) hn $$ Hkn
  unfold rec
  icases HS with ⟨%κ₁, #HS, #HSr⟩
  icases HR with ⟨%κ₂, #HR, #HRr⟩
  iapply (Rounds.wp_send_pointsTo 𝒱₀ EX (xRd V) (c : Thread nD τ) none (κ₁ := κ₁) (κ₂ := κ₂) (r₁ := 0) (r₂ := 0) (d₁ := 0) (d₂ := 0) (fd := g) (fs := f)
    (by rw [duties_send V c hn]; exact Finset.mem_singleton_self _) (by rw [duties_recv V _ hn]; exact Finset.mem_singleton_self _)
    () () N (show (rSlot n).view.amount (.dma (rSem n)) = N from credit_r n) rfl rfl (owe c (n + 6)) (owe_send c hn) (W := w)
    (by rw [payload_send V c hn, ← hf]; exact owns_intro (c : Thread nD τ) (sSlot n) fullShare f)
    (by
      rw [payload_recv V _ hn, peer_peer, ← hf]
      refine (owns_intro (peer n c : Thread nD τ) (rSlot n) fullShare _).trans (Entails.of_eq ?_)
      unfold rPts; rw [View.read_write_univ])) $$ [Hs Hr HO HtS HtR]
  · isplitr; · iexact HS
    isplitr; · iexact HR
    isplitl [Hs]; · iexact Hs
    isplitl [Hr]; · iexact Hr
    isplitl [HO]; · iexact HO
    isplitl [HtS]; · iexact HtS
    isplitr; · iexact HSr
    isplitl [HtR]; · iexact HtR
    iexact HRr
  iintro ⟨Hc, HO⟩
  rw [wp_ret]; imodintro
  iapply Hk
  unfold flight
  isplitl [Hc]; · iexact Hc
  iexists w; iexact HO

theorem wp_issue (c : Dev nD) {n : ℕ} (hn : n < 30) (Q : PUnit → sProp 𝕄) :
    iprop(know V ∗ sPts c n (V n c) ∗ pend c n ∗ ow c (n + 5))
      ⊢ iprop(((flight c n ∗ ow c (n + 6)) -∗ Q ⟨⟩) -∗ W c (issue c n) Q) :=
  wp_issue_to V c (dstDev c n) hn (dstDev_eq hn c) Q

/-! ## Finishing a transfer -/

set_option maxHeartbeats 1000000 in
theorem wp_finish (c : Dev nD) {n : ℕ} (hn : n < 30) (j : ℕ) (hj : ∀ p, j ≤ p → p < 35 → 2 + n / 2 < payLv p) (Q : PUnit → sProp 𝕄) :
    iprop(know V ∗ flight c n ∗ wait c n ∗ ow c j)
      ⊢ iprop(((fin c n ∗ sPts c n (addf (V n c) (V n (peer n c))) ∗ ow c j) -∗ Q ⟨⟩) -∗ W c (finish n) Q) := by
  unfold finish flight wait ow
  simp only [Prog.lift, Prog.bind_op, Prog.bind_ret, Prog.pure_eq_ret]
  iintro ⟨#Hkn, Hf, ⟨HaS, HaR, HcR⟩, ⟨%w, HO⟩⟩ Hk
  ihave HS := know_send V c hn $$ Hkn
  ihave HR := know_recv V c hn $$ Hkn
  unfold rec
  icases HS with ⟨%κ₁, #HS, #HSr⟩
  icases HR with ⟨%κ₂, #HR, #HRr⟩
  iapply (Rounds.wp_wait_rest_token 𝒱₀ EX (xRd V) (c : Thread nD τ) none (κ := κ₁)
      (wpE_waitDma2_eq 𝒱₀ (c : Thread nD τ) none Set.univ) (Set.mem_univ _) () (O := owe c j) (W := w) (R := 0) (m := 0) (T := ∅)
      ((Nat.zero_add _).trans ((credit_s n).trans (expect_send V c hn).symm))) $$ [Hf HO HaS]
  · isplitr; · iexact HS
    isplitl [Hf]; · rw [credit_s n]; iexact Hf
    isplitl [HO]; · iexact HO
    isplitr
    · iapply (know_send_wait V c hn j (fun p h1 h2 => by have := hj p h1 h2; omega)); iexact Hkn
    iexact HaS
  iintro ⟨HO, HaS, -, Hpay⟩
  ihave Hs := (Entails.of_eq (rest_send V c hn)) $$ Hpay
  iapply (Rounds.wp_wait_rest_token 𝒱₀ EX (xRd V) (c : Thread nD τ) none (κ := κ₂)
      (wpE_waitDma2_eq 𝒱₀ (c : Thread nD τ) none Set.univ) (Set.mem_univ _) () (O := owe c j) (W := insert (SemLoc.dma (sSem n), ()) w) (R := 0) (m := 0) (T := ∅)
      ((Nat.zero_add _).trans ((credit_r n).trans (expect_recv V c hn).symm))) $$ [HcR HO HaR]
  · isplitr; · iexact HR
    isplitl [HcR]; · rw [credit_r n]; iexact HcR
    isplitl [HO]; · iexact HO
    isplitr
    · iapply (know_recv_wait V c hn j hj); iexact Hkn
    iexact HaR
  iintro ⟨HO, HaR, -, Hpay⟩
  ihave Hr := (Entails.of_eq (rest_recv V c hn)) $$ Hpay
  imod (Rounds.cell_close EX (xRd V) (Set.mem_univ κ₁) (fun h => h) (R := 0 + 1) (duties_later V (sendCell c n))) $$ [HaS] with HzS
  · isplitr; · iexact HS
    iexact HaS
  imod (Rounds.cell_close EX (xRd V) (Set.mem_univ κ₂) (fun h => h) (R := 0 + 1) (duties_later V (recvCell c n))) $$ [HaR] with HzR
  · isplitr; · iexact HR
    iexact HaR
  simp only [wp_bind]
  iapply (wp_loadS c n (V n c)) $$ Hs
  iintro %a %ha Hs
  iapply (wp_loadR c n (V n (peer n c))) $$ Hr
  iintro %b %hb Hr
  iapply (wp_loadS c n (V n c)) $$ Hs
  iintro %a' %ha' Hs
  rw [sumP_eq, ha, hb]
  iapply (wp_storeS c n (V n c)) $$ Hs
  iintro Hs
  iapply Hk
  unfold fin rAny
  isplitl [HzS HzR Hr]
  · isplitl [HzS]; · iexact HzS
    isplitl [HzR]; · iexact HzR
    iexists _; iexact Hr
  isplitl [Hs]; · iexact Hs
  iexists _; iexact HO

end Cert.KernelIdeal.AllReduce

end
-- ==== Proof.KernelIdeal.Values.lean ====
/-
# What every transfer carries

`acc p s c`: device `c`'s sum after `s` steps of the exchange started from `p`. One layer's two halves are summed so, and
the next layer's input comes from them.
-/
module

public import proofs.«01_k».proof.Proof.KernelIdeal.Moves

@[expose] public section

noncomputable section

namespace Cert.KernelIdeal.AllReduce

open Cert.KernelIdeal Cert.KernelIdeal.Gen
open Idealize.ShloMosaic

variable {F : FTy → Type} [FloatOps F]

/-- Device `c`'s sum after `s` steps: at each step the partner's sum is added to its own. -/
def acc (p : Dev nD → FVec F S64x512 .bf16) : ℕ → Dev nD → FVec F S64x512 .bf16
  | 0 => p
  | s + 1 => fun c => addf (acc p s c) (acc p s (pair ⟨s % 5, Nat.mod_lt _ (by decide)⟩ c))

/-- Half `h` of a device's share of a layer's first product. -/
def halfAt (h : ℕ) (p : FVec F S64x1024 .f32) : FVec F S64x512 .bf16 := if h = 0 then half0 p else half1 p

variable (x : Dev nD → Vec F S64x512 .bf16) (wi : ℕ → Dev nD → Vec F S512x1024 .bf16) (wo : ℕ → Dev nD → Vec F S1024x512 .bf16)

/-- Half `h` of layer `l`'s first product, before the exchange, from the layer's input `X`. -/
def share (X : Dev nD → FVec F S64x512 .bf16) (l h : ℕ) (c : Dev nD) : FVec F S64x512 .bf16 := halfAt h (partP (X c) (wi l c))
/-- And after it. -/
def total (X : Dev nD → FVec F S64x512 .bf16) (l h : ℕ) : Dev nD → FVec F S64x512 .bf16 := acc (share wi X l h) 5
/-- The layer's output block. -/
def outOf (X : Dev nD → FVec F S64x512 .bf16) (l : ℕ) (c : Dev nD) : FVec F S64x512 .f32 :=
  outP (total wi X l 0 c) (total wi X l 1 c) (wo l c)
/-- Layer `l`'s input. -/
def xs : ℕ → Dev nD → FVec F S64x512 .bf16
  | 0 => fun c => entryX (x c)
  | l + 1 => fun c => narrow (outOf wi wo (xs l) l c)

/-- What device `c` sends in transfer `n`. -/
def sent (n : ℕ) (c : Dev nD) : FVec F S64x512 .bf16 := acc (share wi (xs x wi wo (n / 10)) (n / 10) (n % 2)) (n / 2 % 5) c

/-- The kernel's result on device `c`. -/
def result (c : Dev nD) : FVec F S64x512 .f32 := outOf wi wo (xs x wi wo 2) 2 c

/-- What is stored after transfer `n`. -/
def summed (n : ℕ) (c : Dev nD) : FVec F S64x512 .bf16 := addf (sent x wi wo n c) (sent x wi wo n (peer n c))

theorem summed_eq (n : ℕ) (c : Dev nD) :
    summed x wi wo n c = acc (share wi (xs x wi wo (n / 10)) (n / 10) (n % 2)) (n / 2 % 5 + 1) c := by
  unfold summed sent peer stepOf
  rw [acc]
  simp only [Nat.mod_mod]

theorem sent_next {n : ℕ} (hn : n % 10 < 8) (c : Dev nD) : sent x wi wo (n + 2) c = summed x wi wo n c := by
  rw [summed_eq]; unfold sent
  rw [show (n + 2) / 10 = n / 10 by omega, show (n + 2) % 2 = n % 2 by omega, show (n + 2) / 2 % 5 = n / 2 % 5 + 1 by omega]

theorem sent_first (l : ℕ) (c : Dev nD) : sent x wi wo (10 * l) c = half0 (partP (xs x wi wo l c) (wi l c)) := by
  unfold sent
  rw [show 10 * l / 10 = l by omega, show 10 * l % 2 = 0 by omega, show 10 * l / 2 % 5 = 0 by omega]; rfl
theorem sent_second (l : ℕ) (c : Dev nD) : sent x wi wo (10 * l + 1) c = half1 (partP (xs x wi wo l c) (wi l c)) := by
  unfold sent
  rw [show (10 * l + 1) / 10 = l by omega, show (10 * l + 1) % 2 = 1 by omega, show (10 * l + 1) / 2 % 5 = 0 by omega]; rfl
theorem summed_last (l h : ℕ) (hh : h < 2) (c : Dev nD) : summed x wi wo (10 * l + (8 + h)) c = total wi (xs x wi wo l) l h c := by
  rw [summed_eq]; unfold total
  rw [show (10 * l + (8 + h)) / 10 = l by omega, show (10 * l + (8 + h)) % 2 = h by omega, show (10 * l + (8 + h)) / 2 % 5 = 4 by omega]

end Cert.KernelIdeal.AllReduce

end
-- ==== Proof.KernelIdeal.Body.lean ====
/-
# The body of one device

The handshake, then three layers of the same exchange. Between two pieces the state says which transfers are finished, which
are on their way and which are still to come.
-/
module

public import proofs.«01_k».proof.Proof.KernelIdeal.Moves
public import proofs.«01_k».proof.Proof.KernelIdeal.Values
public import Idealize.SL.BI.BigOpNat

@[expose] public section

set_option maxRecDepth 10000

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Halves by their number's parity -/

omit [FloatOps F] in
theorem sRect_congr (c : Dev nD) (v : FVec F S64x512 .bf16) : ∀ (o o' : Fin 3 → ℕ) (h : ∀ a, o a + S1x64x512.size a ≤ S2x64x512.size a)
    (h' : ∀ a, o' a + S1x64x512.size a ≤ S2x64x512.size a), o = o' →
    (owns (c : Thread nD τ) ((sM.slice (Rect.unit (s := S2x64x512) o S1x64x512.size h) (fun _ => rfl)).squeeze S64x512 squeezes_S1x64x512_S64x512) fullShare v : sProp 𝕄)
      = owns (c : Thread nD τ) ((sM.slice (Rect.unit (s := S2x64x512) o' S1x64x512.size h') (fun _ => rfl)).squeeze S64x512 squeezes_S1x64x512_S64x512) fullShare v := by
  rintro o _ h h' rfl; rfl

omit [FloatOps F] in
theorem sPts_mod (c : Dev nD) {n m : ℕ} (h : n % 2 = m % 2) (v : FVec F S64x512 .bf16) : sPts c n v = sPts c m v :=
  sRect_congr c v _ _ (s_inb n) (s_inb m) (by rw [h])

/-! ## The handshake -/

section Hand
variable (V : ℕ → Dev nD → FVec F S64x512 .bf16)

/-- What device `c` hands its partner of step `s`, and its right to signal. -/
def give (c : Dev nD) (s : Fin 5) : sProp 𝕄 :=
  iprop((bigSep (ofStep s) fun n => rAny (F := F) c n) ∗ dutyTok EX (barCell (pair s c)) 0 s)

theorem wp_sig_to (c d : Dev nD) (s : Fin 5) (hd : d = pair s c) (Q : PUnit → sProp 𝕄) :
    iprop(know V ∗ give c s ∗ ow c s.val) ⊢ iprop((ow c (s.val + 1) -∗ Q ⟨⟩) -∗ W c (semSignalWord d barS 1#32) Q) := by
  subst hd
  unfold give ow semSignalWord
  iintro ⟨#Hkn, ⟨Hr, Ht⟩, ⟨%w, HO⟩⟩ Hk
  ihave HB := know_bar V (pair s c) $$ Hkn
  unfold rec
  icases HB with ⟨%κ, #HI, #HR⟩
  iapply (Rounds.wp_signal 𝒱₀ EX (xRd V) (c : Thread nD τ) none (dst := (pair s c : Thread nD τ)) (κ := κ)
      (d := s) (by rw [duties_bar]; exact Finset.mem_univ _) (show (xRd V).amount (barCell (pair s c)) 0 s = (1#32 : BitVec 32).toInt.toNat by rfl) () (owe c (s.val + 1)) (owe_sig c s))
    $$ [HO Ht Hr]
  · isplitr; · iexact HI
    isplitl [HO]; · iexact HO
    isplitl [Ht]; · iexact Ht
    isplitl [Hr]; · rw [payload_bar]; unfold barPay; rw [pair_pair]; iexact Hr
    iexact HR
  iintro HO
  rw [wp_ret]; imodintro
  iapply Hk; iexists w; iexact HO

theorem wp_sig (c : Dev nD) (s : Fin 5) (Q : PUnit → sProp 𝕄) :
    iprop(know V ∗ give c s ∗ ow c s.val) ⊢ iprop((ow c (s.val + 1) -∗ Q ⟨⟩) -∗ W c (semSignalWord (sigDev c s.val) barS 1#32) Q) :=
  wp_sig_to V c _ s (sigDev_eq s c) Q

theorem wp_bar (c : Dev nD) (Q : PUnit → sProp 𝕄) :
    iprop(know V ∗ atPos EX (barCell c) 0 ∅ 0 ∗ cred (tallyAt (barCell c) () 5) ∗ ow c 5)
      ⊢ iprop(((semVal (barCell c) 0 ∗ (bigSep (Finset.range 30) fun n => rAny (F := F) (peer n c) n) ∗ ow c 5) -∗ Q ⟨⟩) -∗ W c (semWaitWord barS 5#32) Q) := by
  unfold ow semWaitWord
  iintro ⟨#Hkn, Ha, Hc, ⟨%w, HO⟩⟩ Hk
  ihave HB := know_bar V c $$ Hkn
  unfold rec
  icases HB with ⟨%κ, #HI, #HR⟩
  iapply (Rounds.wp_wait_rest_token 𝒱₀ EX (xRd V) (c : Thread nD τ) none (κ := κ)
      (wpE_semWait_eq 𝒱₀ (c : Thread nD τ) none Set.univ) (Set.mem_univ _) () (O := owe c 5) (W := w) (R := 0) (m := 0) (T := ∅)
      (by rw [expect_bar]; decide)) $$ [Hc HO Ha]
  · isplitr; · iexact HI
    isplitl [Hc]; · iexact Hc
    isplitl [HO]; · iexact HO
    isplitr; · iapply (know_bar_wait V c); iexact Hkn
    iexact Ha
  iintro ⟨HO, Ha, -, Hpay⟩
  ihave Hp := (Entails.of_eq (rest_bar V c)) $$ Hpay
  imod (Rounds.cell_close EX (xRd V) (Set.mem_univ κ) (fun h => h) (R := 0 + 1) (duties_later V (barCell c))) $$ [Ha] with Hz
  · isplitr; · iexact HI
    iexact Ha
  rw [wp_ret]; imodintro
  iapply Hk
  isplitl [Hz]; · iexact Hz
  isplitl [Hp]; · iexact Hp
  iexists _; iexact HO

end Hand

/-! ## One layer's exchange -/

section Layer
variable (x : Dev nD → Vec F S64x512 .bf16) (wi : ℕ → Dev nD → Vec F S512x1024 .bf16) (wo : ℕ → Dev nD → Vec F S1024x512 .bf16)

local notation "V" => sent x wi wo

/-- Between two layers, before transfer `n`: the send halves hold `a` and `b`. -/
def between (c : Dev nD) (n : ℕ) (a b : FVec F S64x512 .bf16) : sProp 𝕄 :=
  iprop(sPts c 0 a ∗ sPts c 1 b ∗ ow c (n + 5) ∗ (bigSep (Finset.Ico n 30) fun i => wait (F := F) c i)
    ∗ (bigSep (Finset.Ico n 30) fun i => pend (F := F) c i) ∗ (bigSep (Finset.Ico 0 n) fun i => fin (F := F) c i))

/-- Within a layer: transfers `n` and `n + 1` are on their way. -/
def within (c : Dev nD) (n : ℕ) : sProp 𝕄 :=
  iprop(flight c n ∗ flight c (n + 1) ∗ ow c (n + 7) ∗ (bigSep (Finset.Ico n 30) fun i => wait (F := F) c i)
    ∗ (bigSep (Finset.Ico (n + 2) 30) fun i => pend (F := F) c i) ∗ (bigSep (Finset.Ico 0 n) fun i => fin (F := F) c i))

/-- `k` rounds: each finishes the older of the two transfers on their way and starts the one after the younger. -/
theorem wp_rounds (c : Dev nD) (Q : PUnit → sProp 𝕄) : ∀ (k n : ℕ), n % 10 + k ≤ 8 → n + k + 2 ≤ 30 →
    iprop(know V ∗ within c n) ⊢ iprop((within c (n + k) -∗ Q ⟨⟩) -∗ W c (rounds c n k) Q)
  | 0, n, _, _ => by
    rw [rounds]
    rw [Prog.pure_eq_ret]; unfold W; rw [wp_ret]
    iintro ⟨-, H⟩ Hk
    imodintro
    iapply Hk; iexact H
  | k + 1, n, h1, h2 => by
    rw [rounds]
    unfold within
    simp only [wp_bind]
    rw [bigSep_Ico_succ_bot (show n < 30 by omega), bigSep_Ico_succ_bot (show n + 2 < 30 by omega)]
    iintro ⟨#Hkn, Hf, Hf', HO, ⟨Hw, Hws⟩, ⟨Hp, Hps⟩, Hfin⟩ Hk
    iapply (wp_finish V c (n := n) (by omega) (n + 7) (fun p h3 h4 => by unfold payLv; rw [if_neg (by omega)]; omega)) $$ [Hf Hw HO]
    · isplitr; · iexact Hkn
      isplitl [Hf]; · iexact Hf
      isplitl [Hw]; · iexact Hw
      iexact HO
    iintro ⟨Hn, Hs, HO⟩
    iapply (wp_issue V c (n := n + 2) (by omega)) $$ [Hs Hp HO]
    · isplitr; · iexact Hkn
      isplitl [Hs]
      · rw [sPts_mod c (show (n + 2) % 2 = n % 2 by omega), sent_next x wi wo (by omega)]; iexact Hs
      isplitl [Hp]; · iexact Hp
      iexact HO
    iintro ⟨Hf, HO⟩
    have ih := wp_rounds c Q k (n + 1) (by omega) (by omega)
    unfold within at ih
    iapply ih $$ [Hf Hf' HO Hws Hps Hfin Hn]
    · isplitr; · iexact Hkn
      isplitl [Hf']; · iexact Hf'
      isplitl [Hf]; · iexact Hf
      isplitl [HO]; · iexact HO
      isplitl [Hws]; · iexact Hws
      isplitl [Hps]; · iexact Hps
      rw [bigSep_Ico_succ_top (show 0 ≤ n by omega)]
      isplitl [Hn]; · iexact Hn
      iexact Hfin
    rw [show n + 1 + k = n + (k + 1) by omega]
    iexact Hk

/-- One layer's exchange, the partial products `p` given: both halves are summed over all devices. -/
theorem wp_exchange (c : Dev nD) (l : ℕ) (hl : l < 3) (a b : FVec F S64x512 .bf16) (Q : PUnit → sProp 𝕄) :
    iprop(know V ∗ between c (10 * l) a b)
      ⊢ iprop((between c (10 * l + 10) (total wi (xs x wi wo l) l 0 c) (total wi (xs x wi wo l) l 1 c) -∗ Q ⟨⟩)
        -∗ W c (exchange c (10 * l) (partP (xs x wi wo l c) (wi l c))) Q) := by
  unfold exchange between
  simp only [wp_bind]
  rw [bigSep_Ico_succ_bot (show 10 * l < 30 by omega) (fun i => pend (F := F) c i), bigSep_Ico_succ_bot (show 10 * l + 1 < 30 by omega) (fun i => pend (F := F) c i)]
  rw [← sPts_mod c (show 10 * l % 2 = 0 % 2 by omega) a, ← sPts_mod c (show (10 * l + 1) % 2 = 1 % 2 by omega) b]
  iintro ⟨#Hkn, Ha, Hb, HO, Hws, ⟨Hp, Hp', Hps⟩, Hfin⟩ Hk
  iapply (wp_loadS c (10 * l) a) $$ Ha
  iintro %a' - Ha
  iapply (wp_storeS c (10 * l) a) $$ Ha
  iintro Ha
  iapply (wp_loadS c (10 * l + 1) b) $$ Hb
  iintro %b' - Hb
  iapply (wp_storeS c (10 * l + 1) b) $$ Hb
  iintro Hb
  rw [← sent_first x wi wo l c, ← sent_second x wi wo l c]
  iapply (wp_issue V c (n := 10 * l) (by omega)) $$ [Ha Hp HO]
  · isplitr; · iexact Hkn
    isplitl [Ha]; · iexact Ha
    isplitl [Hp]; · iexact Hp
    iexact HO
  iintro ⟨Hf, HO⟩
  iapply (wp_issue V c (n := 10 * l + 1) (by omega)) $$ [Hb Hp' HO]
  · isplitr; · iexact Hkn
    isplitl [Hb]; · iexact Hb
    isplitl [Hp']; · iexact Hp'
    iexact HO
  iintro ⟨Hf', HO⟩
  iapply (wp_rounds x wi wo c _ 8 (10 * l) (by omega) (by omega)) $$ [Hf Hf' HO Hws Hps Hfin]
  · unfold within
    isplitr; · iexact Hkn
    isplitl [Hf]; · iexact Hf
    isplitl [Hf']; · iexact Hf'
    isplitl [HO]; · iexact HO
    isplitl [Hws]; · iexact Hws
    isplitl [Hps]; · iexact Hps
    iexact Hfin
  unfold within
  rw [bigSep_Ico_succ_bot (show 10 * l + 8 < 30 by omega), bigSep_Ico_succ_bot (show 10 * l + 8 + 1 < 30 by omega)]
  iintro ⟨Hf, Hf', HO, ⟨Hw, Hw', Hws⟩, Hps, Hfin⟩
  iapply (wp_finish V c (n := 10 * l + 8) (by omega) (10 * l + 8 + 7) (fun p h3 h4 => by unfold payLv; rw [if_neg (by omega)]; omega)) $$ [Hf Hw HO]
  · isplitr; · iexact Hkn
    isplitl [Hf]; · iexact Hf
    isplitl [Hw]; · iexact Hw
    iexact HO
  iintro ⟨Hn, Ha, HO⟩
  iapply (wp_finish V c (n := 10 * l + 9) (by omega) (10 * l + 8 + 7) (fun p h3 h4 => by unfold payLv; rw [if_neg (by omega)]; omega)) $$ [Hf' Hw' HO]
  · isplitr; · iexact Hkn
    isplitl [Hf']; · iexact Hf'
    isplitl [Hw']; · iexact Hw'
    iexact HO
  iintro ⟨Hn', Hb, HO⟩
  iapply Hk
  rw [← summed_last x wi wo l 0 (by omega) c, ← summed_last x wi wo l 1 (by omega) c,
    ← sPts_mod c (show (10 * l + 8) % 2 = 0 % 2 by omega), ← sPts_mod c (show (10 * l + 9) % 2 = 1 % 2 by omega)]
  isplitl [Ha]; · iexact Ha
  isplitl [Hb]; · iexact Hb
  isplitl [HO]; · iexact HO
  isplitl [Hws]; · iexact Hws
  isplitl [Hps]; · iexact Hps
  rw [bigSep_Ico_succ_top (show 0 ≤ 10 * l + 9 by omega), bigSep_Ico_succ_top (show 0 ≤ 10 * l + 8 by omega)]
  isplitl [Hn']; · iexact Hn'
  isplitl [Hn]; · iexact Hn
  iexact Hfin

/-! ## The whole body -/

omit [FloatOps F] in
theorem hz2 : (![0, 0] : Fin 2 → Nat) = fun _ => 0 := funext fun a => by fin_cases a <;> rfl

/-- The contents of buffer `b` on device `c`. -/
abbrev buf (c : Dev nD) (b : Ref sig .tc) (f : Buf (Elt F) ((c : Thread nD τ).loc b)) : sProp 𝕄 := (((c : Thread nD τ).loc b) ↦{fullShare} f)

theorem wp_loadAll {s : Shape} {e : EltTy} (c : Dev nD) (M : Memref sig .tc .vmem s e) (r : Rect s) (hl : M.view.LoadsAt r.toLoadRect)
    (f : Buf (Elt F) (M.view.loc (c : Thread nD τ))) (v : r.toLoadRect.shape.Idx → Elt F e) (hv : M.view.readAt (Elt F) r.toLoadRect f = v)
    (Q : (r.toLoadRect.shape.Idx → Elt F e) → sProp 𝕄) :
    (M.view.loc (c : Thread nD τ) ↦{fullShare} f) ⊢ iprop(((M.view.loc (c : Thread nD τ) ↦{fullShare} f) -∗ Q v)
      -∗ W c (Prog.lift (.load M r.toLoadRect hl)) Q) := by
  subst hv
  unfold W Prog.lift
  iintro H Hk
  iapply (wp_load 𝒱₀ (c : Thread nD τ) none Set.univ (m := M) (Finset.subset_univ _)) $$ H; iintro H
  rw [wp_ret]; imodintro
  iapply Hk; iexact H

/-- The result's staging buffer written whole. -/
theorem wp_storeOut (c : Dev nD) (o w : FVec F S64x512 .f32) (Q : PUnit → sProp 𝕄) {hx} :
    buf c cc0_stg7_0 o ⊢ iprop((buf c cc0_stg7_0 w -∗ Q ⟨⟩)
      -∗ W c (Prog.lift (.store (Memref.whole cc0_stg7_0 : Memref sig .tc .vmem S64x512 .f32) (Rect.unit (s := S64x512) ![0, 0] S64x512.size inb_S64x512_S64x512_0_0)
        w Finset.univ hx (.inl rfl))) Q) := by
  have h := fun f : (cc0_stg7_0 : Ref sig .tc).ty.Contents (Elt F) => Memref.write_access_unit_zero_univ (Elt F) cc0_stg7_0 hz2 inb_S64x512_S64x512_0_0 f w
  unfold W Prog.lift
  iintro H Hk
  iapply (wp_store 𝒱₀ (c : Thread nD τ) none Set.univ (m := (Memref.whole cc0_stg7_0 : Memref sig .tc .vmem S64x512 .f32))
    (r := Rect.unit (s := S64x512) ![0, 0] S64x512.size inb_S64x512_S64x512_0_0) (Mk := Finset.univ) (f := o) (Finset.subset_univ _)) $$ H; iintro H
  rw [wp_ret]; imodintro
  iapply Hk
  ihave H' := (Entails.of_eq (congrArg (buf c cc0_stg7_0) (h o))) $$ H
  iexact H'

theorem five (Φ : Fin 5 → sProp 𝕄) : bigSep Finset.univ Φ = iprop(Φ 0 ∗ Φ 1 ∗ Φ 2 ∗ Φ 3 ∗ Φ 4) := by
  rw [bigSep_univ_eq_bigSepL [0, 1, 2, 3, 4] (by decide) (by decide), bigSepL_cons_cons, bigSepL_cons_cons, bigSepL_cons_cons, bigSepL_cons_cons, bigSepL_singleton]
  rfl

/-- What device `c`'s body starts from, its staged inputs aside. -/
def entry (c : Dev nD) : sProp 𝕄 :=
  iprop((bigSep Finset.univ fun s => give (F := F) c s) ∗ atPos EX (barCell c) 0 ∅ 0 ∗ cred (tallyAt (barCell c) () 5)
    ∗ (bigSep (Finset.range 30) fun n => iprop(dutyTok EX (sendCell c n) 0 0 ∗ dutyTok EX (recvCell (peer n c) n) 0 0))
    ∗ (bigSep (Finset.range 30) fun n => wait (F := F) c n))

/-- The staged inputs of device `c`. -/
def ins (c : Dev nD) : sProp 𝕄 :=
  iprop(buf c cc0_stg0_0 (x c) ∗ buf c cc0_stg1_0 (wi 0 c) ∗ buf c cc0_stg2_0 (wo 0 c) ∗ buf c cc0_stg3_0 (wi 1 c)
    ∗ buf c cc0_stg4_0 (wo 1 c) ∗ buf c cc0_stg5_0 (wi 2 c) ∗ buf c cc0_stg6_0 (wo 2 c))

set_option maxHeartbeats 2000000 in
theorem wp_steps (c : Dev nD) (a b : FVec F S64x512 .bf16) (o : Vec F S64x512 .f32) (Q : PUnit → sProp 𝕄) :
    iprop(know V ∗ entry c ∗ sPts c 0 a ∗ sPts c 1 b ∗ ow c 0 ∗ ins x wi wo c ∗ buf c cc0_stg7_0 o)
      ⊢ iprop(((semVal (barCell c) 0 ∗ between c 30 (total wi (xs x wi wo 2) 2 0 c) (total wi (xs x wi wo 2) 2 1 c)
          ∗ ins x wi wo c ∗ buf c cc0_stg7_0 (result x wi wo c)) -∗ Q ⟨⟩) -∗ W c (steps c) Q) := by
  unfold steps entry ins
  simp only [wp_bind, loadWin, loadWout]
  rw [five]
  iintro ⟨#Hkn, ⟨⟨H0, H1, H2, H3, H4⟩, Hat, Hcr, Ht, Hw⟩, Ha, Hb, HO, ⟨I0, I1, I2, I3, I4, I5, I6⟩, I7⟩ Hk
  iapply (wp_sig V c 0) $$ [H0 HO]
  · isplitr; · iexact Hkn
    isplitl [H0]; · iexact H0
    iexact HO
  iintro HO
  iapply (wp_sig V c 1) $$ [H1 HO]
  · isplitr; · iexact Hkn
    isplitl [H1]; · iexact H1
    iexact HO
  iintro HO
  iapply (wp_sig V c 2) $$ [H2 HO]
  · isplitr; · iexact Hkn
    isplitl [H2]; · iexact H2
    iexact HO
  iintro HO
  iapply (wp_sig V c 3) $$ [H3 HO]
  · isplitr; · iexact Hkn
    isplitl [H3]; · iexact H3
    iexact HO
  iintro HO
  iapply (wp_sig V c 4) $$ [H4 HO]
  · isplitr; · iexact Hkn
    isplitl [H4]; · iexact H4
    iexact HO
  iintro HO
  iapply (wp_bar V c) $$ [Hat Hcr HO]
  · isplitr; · iexact Hkn
    isplitl [Hat]; · iexact Hat
    isplitl [Hcr]; · iexact Hcr
    iexact HO
  iintro ⟨Hz, Hr, HO⟩
  ihave Hp := (Entails.of_eq (bigSep_sep' (Finset.range 30) (fun n => rAny (F := F) (peer n c) n)
    (fun n => iprop(dutyTok EX (sendCell c n) 0 0 ∗ dutyTok EX (recvCell (peer n c) n) 0 0))).symm) $$ [Hr Ht]
  · isplitl [Hr]; · iexact Hr
    iexact Ht
  rw [Finset.range_eq_Ico]
  ihave Hfin := (Entails.of_eq (bigSep_empty (Φ := fun i => fin (F := F) c i)).symm) $$ []
  · iempintro
  iapply (wp_loadAll c (Memref.whole cc0_stg0_0) _ _ (x c) (x c) (Memref.readAt_unit_zero (Elt F) cc0_stg0_0 hz2 _ _)) $$ I0; iintro I0
  iapply (wp_loadAll c (Memref.whole cc0_stg1_0) _ _ (wi 0 c) (wi 0 c) (Memref.readAt_unit_zero (Elt F) cc0_stg1_0 hz2 _ _)) $$ I1; iintro I1
  iapply (wp_exchange x wi wo c 0 (by omega) a b) $$ [Ha Hb HO Hw Hp Hfin]
  · isplitr; · iexact Hkn
    unfold between
    isplitl [Ha]; · iexact Ha
    isplitl [Hb]; · iexact Hb
    isplitl [HO]; · iexact HO
    isplitl [Hw]; · iexact Hw
    isplitl [Hp]; · iexact Hp
    iexact Hfin
  unfold between
  iintro ⟨Ha, Hb, HO, Hw, Hp, Hfin⟩
  iapply (wp_loadS c 0 (total wi (xs x wi wo 0) 0 0 c)) $$ Ha; iintro %a0 %ha0 Ha
  iapply (wp_loadS c 1 (total wi (xs x wi wo 0) 0 1 c)) $$ Hb; iintro %b0 %hb0 Hb
  rw [ha0, hb0]
  iapply (wp_loadAll c (Memref.whole cc0_stg2_0) _ _ (wo 0 c) (wo 0 c) (Memref.readAt_unit_zero (Elt F) cc0_stg2_0 hz2 _ _)) $$ I2; iintro I2
  iapply (wp_loadAll c (Memref.whole cc0_stg3_0) _ _ (wi 1 c) (wi 1 c) (Memref.readAt_unit_zero (Elt F) cc0_stg3_0 hz2 _ _)) $$ I3; iintro I3
  iapply (wp_exchange x wi wo c 1 (by omega) (total wi (xs x wi wo 0) 0 0 c) (total wi (xs x wi wo 0) 0 1 c)) $$ [Ha Hb HO Hw Hp Hfin]
  · isplitr; · iexact Hkn
    unfold between
    isplitl [Ha]; · iexact Ha
    isplitl [Hb]; · iexact Hb
    isplitl [HO]; · iexact HO
    isplitl [Hw]; · iexact Hw
    isplitl [Hp]; · iexact Hp
    iexact Hfin
  unfold between
  iintro ⟨Ha, Hb, HO, Hw, Hp, Hfin⟩
  iapply (wp_loadS c 0 (total wi (xs x wi wo 1) 1 0 c)) $$ Ha; iintro %a1 %ha1 Ha
  iapply (wp_loadS c 1 (total wi (xs x wi wo 1) 1 1 c)) $$ Hb; iintro %b1 %hb1 Hb
  rw [ha1, hb1]
  iapply (wp_loadAll c (Memref.whole cc0_stg4_0) _ _ (wo 1 c) (wo 1 c) (Memref.readAt_unit_zero (Elt F) cc0_stg4_0 hz2 _ _)) $$ I4; iintro I4
  iapply (wp_loadAll c (Memref.whole cc0_stg5_0) _ _ (wi 2 c) (wi 2 c) (Memref.readAt_unit_zero (Elt F) cc0_stg5_0 hz2 _ _)) $$ I5; iintro I5
  iapply (wp_exchange x wi wo c 2 (by omega) (total wi (xs x wi wo 1) 1 0 c) (total wi (xs x wi wo 1) 1 1 c)) $$ [Ha Hb HO Hw Hp Hfin]
  · isplitr; · iexact Hkn
    unfold between
    isplitl [Ha]; · iexact Ha
    isplitl [Hb]; · iexact Hb
    isplitl [HO]; · iexact HO
    isplitl [Hw]; · iexact Hw
    isplitl [Hp]; · iexact Hp
    iexact Hfin
  unfold between
  iintro ⟨Ha, Hb, HO, Hw, Hp, Hfin⟩
  iapply (wp_loadS c 0 (total wi (xs x wi wo 2) 2 0 c)) $$ Ha; iintro %a2 %ha2 Ha
  iapply (wp_loadS c 1 (total wi (xs x wi wo 2) 2 1 c)) $$ Hb; iintro %b2 %hb2 Hb
  rw [ha2, hb2]
  iapply (wp_loadAll c (Memref.whole cc0_stg6_0) _ _ (wo 2 c) (wo 2 c) (Memref.readAt_unit_zero (Elt F) cc0_stg6_0 hz2 _ _)) $$ I6; iintro I6
  iapply (wp_loadAll c (Memref.whole cc0_stg7_0) _ _ (o) (o) (Memref.readAt_unit_zero (Elt F) cc0_stg7_0 hz2 _ _)) $$ I7; iintro I7
  iapply (wp_storeOut c o) $$ I7; iintro I7
  iapply Hk
  isplitl [Hz]; · iexact Hz
  isplitl [Ha Hb HO Hw Hp Hfin]
  · isplitl [Ha]; · iexact Ha
    isplitl [Hb]; · iexact Hb
    isplitl [HO]; · iexact HO
    isplitl [Hw]; · iexact Hw
    isplitl [Hp]; · iexact Hp
    iexact Hfin
  isplitl [I0 I1 I2 I3 I4 I5 I6]
  · isplitl [I0]; · iexact I0
    isplitl [I1]; · iexact I1
    isplitl [I2]; · iexact I2
    isplitl [I3]; · iexact I3
    isplitl [I4]; · iexact I4
    isplitl [I5]; · iexact I5
    iexact I6
  iexact I7

end Layer

end Cert.KernelIdeal.AllReduce

end
-- ==== Proof.KernelIdeal.Slots.lean ====
/-
# The scratch buffers and their slots

The landing buffer, held whole, is its thirty slots held one by one; the send buffer is its two halves. Both directions:
split when the kernel starts, joined again when it ends.
-/
module

public import proofs.«01_k».proof.Proof.KernelIdeal.Body
public import Idealize.ShloMosaic.Lib.Ring

@[expose] public section

set_option maxRecDepth 10000

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The elements of a slot -/

theorem r_set (n : ℕ) : (rSlot n).view.set = (rRect n).set := by
  rw [Memref.set_view_squeeze]; exact View.set_slice_whole _ _
theorem s_set (n : ℕ) : (sSlot n).view.set = (sRect n).set := by
  rw [Memref.set_view_squeeze]; exact View.set_slice_whole _ _

theorem mem_r {n : ℕ} (hn : n < 30) (i : S15x2x64x512.Idx) : i ∈ (rRect n).set ↔ n = 2 * (i 0).val + (i 1).val := by
  have h0 : (i 0).val < 15 := (i 0).isLt
  have h1 : (i 1).val < 2 := (i 1).isLt
  rw [Rect.mem_set_unit]
  constructor
  · intro h
    have a0 : n / 2 % 15 ≤ (i 0).val ∧ (i 0).val < n / 2 % 15 + 1 := h 0
    have a1 : n % 2 ≤ (i 1).val ∧ (i 1).val < n % 2 + 1 := h 1
    omega
  · intro h a
    fin_cases a
    · show n / 2 % 15 ≤ (i 0).val ∧ (i 0).val < n / 2 % 15 + 1
      omega
    · show n % 2 ≤ (i 1).val ∧ (i 1).val < n % 2 + 1
      omega
    · exact ⟨Nat.zero_le _, (Nat.zero_add _).symm ▸ (i 2).isLt⟩
    · exact ⟨Nat.zero_le _, (Nat.zero_add _).symm ▸ (i 3).isLt⟩

theorem mem_s {n : ℕ} (hn : n < 2) (i : S2x64x512.Idx) : i ∈ (sRect n).set ↔ n = (i 0).val := by
  have h0 : (i 0).val < 2 := (i 0).isLt
  rw [Rect.mem_set_unit]
  constructor
  · intro h
    have a0 : n % 2 ≤ (i 0).val ∧ (i 0).val < n % 2 + 1 := h 0
    omega
  · intro h a
    fin_cases a
    · show n % 2 ≤ (i 0).val ∧ (i 0).val < n % 2 + 1
      omega
    · exact ⟨Nat.zero_le _, (Nat.zero_add _).symm ▸ (i 1).isLt⟩
    · exact ⟨Nat.zero_le _, (Nat.zero_add _).symm ▸ (i 2).isLt⟩

omit [FloatOps F] in
/-- A product over the first `n` numbers, over the finite type. -/
theorem over_fin (n : ℕ) (Φ : ℕ → sProp 𝕄) : bigSep (Finset.univ : Finset (Fin n)) (fun i => Φ i.val) = bigSep (Finset.range n) Φ := by
  have h : Finset.range n = (Finset.univ : Finset (Fin n)).map Fin.valEmbedding := by
    ext a; simp only [Finset.mem_range, Finset.mem_map, Finset.mem_univ, true_and]
    exact ⟨fun h => ⟨⟨a, h⟩, rfl⟩, fun ⟨b, hb⟩ => hb ▸ b.isLt⟩
  rw [h, bigSep_map]; rfl

/-! ## The landing buffer -/

abbrev rBlock (c : Dev nD) (n : Fin 30) : Finset (Idx ((c : Thread nD τ).loc cc0_scratch1)) := (rSlot n.val).view.set

theorem r_disj (c : Dev nD) (b b' : Fin 30) (h : b ≠ b') : Disjoint (rBlock c b) (rBlock c b') := by
  rw [Finset.disjoint_left]
  intro i hi hi'
  rw [rBlock, r_set] at hi hi'
  exact h (Fin.ext (((mem_r b.isLt i).mp hi).trans ((mem_r b'.isLt i).mp hi').symm))

theorem r_cover (c : Dev nD) : Finset.univ.biUnion (rBlock c) = Finset.univ := by
  refine Finset.eq_univ_iff_forall.mpr fun i => Finset.mem_biUnion.mpr ?_
  have h (i : S15x2x64x512.Idx) : ∃ n : Fin 30, n.val = 2 * (i 0).val + (i 1).val := by
    have h0 : (i 0).val < 15 := (i 0).isLt
    have h1 : (i 1).val < 2 := (i 1).isLt
    exact ⟨⟨2 * (i 0).val + (i 1).val, by omega⟩, rfl⟩
  obtain ⟨n, hn⟩ := h i
  refine ⟨n, Finset.mem_univ _, ?_⟩
  rw [rBlock, r_set]
  exact (mem_r n.isLt i).mpr hn

omit [FloatOps F] in
theorem rAny_eq (c : Dev nD) (n : ℕ) :
    rAny (F := F) c n = iprop(∃ f, (((c : Thread nD τ).loc cc0_scratch1) ↦[(rSlot n).view.set]{fullShare} f)) := by
  unfold rAny rPts owns
  have h1 : iprop(∃ v : FVec F S64x512 .bf16, ∃ f, ⌜(rSlot n).view.read (Elt F) f = v⌝ ∗ ((rSlot n).view.loc (c : Thread nD τ) ↦[(rSlot n).view.set]{fullShare} f))
      ⊢ (iprop(∃ f, (((c : Thread nD τ).loc cc0_scratch1) ↦[(rSlot n).view.set]{fullShare} f)) : sProp 𝕄) := by
    iintro ⟨%v, %f, -, H⟩; iexists f; iexact H
  have h2 : (iprop(∃ f, (((c : Thread nD τ).loc cc0_scratch1) ↦[(rSlot n).view.set]{fullShare} f)) : sProp 𝕄)
      ⊢ iprop(∃ v : FVec F S64x512 .bf16, ∃ f, ⌜(rSlot n).view.read (Elt F) f = v⌝ ∗ ((rSlot n).view.loc (c : Thread nD τ) ↦[(rSlot n).view.set]{fullShare} f)) := by
    iintro ⟨%f, H⟩; iexists _; iexists f; isplitr; · ipureintro; rfl
    iexact H
  exact Entails.antisymm h1 h2

omit [FloatOps F] in
theorem rAny_intro (c : Dev nD) (n : ℕ) (f : Buf (Elt F) ((c : Thread nD τ).loc cc0_scratch1)) :
    (((c : Thread nD τ).loc cc0_scratch1) ↦[(rSlot n).view.set]{fullShare} f : sProp 𝕄) ⊢ rAny (F := F) c n := by
  unfold rAny rPts owns
  iintro H; iexists _; iexists f; isplitr; · ipureintro; rfl
  iexact H

omit [FloatOps F] in
theorem r_split (c : Dev nD) :
    iprop(∃ f, (((c : Thread nD τ).loc cc0_scratch1) ↦{fullShare} f)) ⊢ (bigSep (Finset.range 30) fun n => rAny (F := F) c n : sProp 𝕄) := by
  rw [← over_fin 30 fun n => rAny (F := F) c n]
  iintro ⟨%f, H⟩
  ihave H' := (Entails.of_eq (Ring.pointsTo_blocks (rBlock c) (r_disj c) (r_cover c) f)) $$ H
  iapply (show (bigSep Finset.univ fun b => (((c : Thread nD τ).loc cc0_scratch1) ↦[rBlock c b]{fullShare} f) : sProp 𝕄)
      ⊢ bigSep Finset.univ fun n : Fin 30 => rAny (F := F) c n.val from bigSep_mono fun n _ => rAny_intro c n.val f)
  iexact H'

omit [FloatOps F] in
theorem r_join (c : Dev nD) :
    (bigSep (Finset.range 30) fun n => rAny (F := F) c n : sProp 𝕄) ⊢ iprop(∃ f, (((c : Thread nD τ).loc cc0_scratch1) ↦{fullShare} f)) := by
  have hne : iprop(∃ f, (((c : Thread nD τ).loc cc0_scratch1) ↦[(rSlot 0).view.set]{fullShare} f) : sProp 𝕄) ⊢ iprop(⌜Nonempty (Buf (Elt F) ((c : Thread nD τ).loc cc0_scratch1))⌝ : sProp 𝕄) := by
    iintro ⟨%f, -⟩; ipureintro; exact ⟨f⟩
  have h1 : (bigSep (Finset.range 30) fun n => rAny (F := F) c n : sProp 𝕄) ⊢ iprop(⌜Nonempty (Buf (Elt F) ((c : Thread nD τ).loc cc0_scratch1))⌝ : sProp 𝕄) :=
    (elim (i := 0) (by decide)).trans (by rw [rAny_eq]; exact hne)
  have h2 (f₀ : Buf (Elt F) ((c : Thread nD τ).loc cc0_scratch1)) : (bigSep (Finset.range 30) fun n => rAny (F := F) c n : sProp 𝕄) ⊢ iprop(∃ f, (((c : Thread nD τ).loc cc0_scratch1) ↦{fullShare} f)) := by
    rw [← over_fin 30 fun n => rAny (F := F) c n, bigSep_congr fun (n : Fin 30) _ => rAny_eq (F := F) c n.val]
    exact Ring.pointsTo_blocks_join_exists (rBlock c) (r_disj c) (r_cover c) f₀
  iintro H
  ihave %h := h1 $$ H
  obtain ⟨f₀⟩ := h
  iapply (h2 f₀)
  iexact H

/-! ## The send buffer -/

abbrev sBlock (c : Dev nD) (n : Fin 2) : Finset (Idx ((c : Thread nD τ).loc cc0_scratch0)) := (sSlot n.val).view.set

theorem s_disj (c : Dev nD) (b b' : Fin 2) (h : b ≠ b') : Disjoint (sBlock c b) (sBlock c b') := by
  rw [Finset.disjoint_left]
  intro i hi hi'
  rw [sBlock, s_set] at hi hi'
  exact h (Fin.ext (((mem_s b.isLt i).mp hi).trans ((mem_s b'.isLt i).mp hi').symm))

theorem s_cover (c : Dev nD) : Finset.univ.biUnion (sBlock c) = Finset.univ := by
  refine Finset.eq_univ_iff_forall.mpr fun i => Finset.mem_biUnion.mpr ?_
  have h (i : S2x64x512.Idx) : ∃ n : Fin 2, n.val = (i 0).val := ⟨i 0, rfl⟩
  obtain ⟨n, hn⟩ := h i
  refine ⟨n, Finset.mem_univ _, ?_⟩
  rw [sBlock, s_set]
  exact (mem_s n.isLt i).mpr hn

omit [FloatOps F] in
theorem bigSep_two (Φ : Fin 2 → sProp 𝕄) : bigSep Finset.univ Φ = iprop(Φ 0 ∗ Φ 1) := bigSep_univ_eq_bigSepL [0, 1] (by decide) (by decide) Φ

omit [FloatOps F] in
theorem s_split (c : Dev nD) :
    iprop(∃ f, (((c : Thread nD τ).loc cc0_scratch0) ↦{fullShare} f)) ⊢ (iprop((∃ a, sPts c 0 a) ∗ (∃ b, sPts c 1 b)) : sProp 𝕄) := by
  iintro ⟨%f, H⟩
  ihave H' := (Entails.of_eq ((Ring.pointsTo_blocks (sBlock c) (s_disj c) (s_cover c) f).trans (bigSep_two _))) $$ H
  icases H' with ⟨H0, H1⟩
  unfold sPts owns
  isplitl [H0]
  · iexists _; iexists f; isplitr; · ipureintro; rfl
    iexact H0
  · iexists _; iexists f; isplitr; · ipureintro; rfl
    iexact H1

omit [FloatOps F] in
theorem s_join (c : Dev nD) (a b : FVec F S64x512 .bf16) :
    (iprop(sPts c 0 a ∗ sPts c 1 b) : sProp 𝕄) ⊢ iprop(∃ f, (((c : Thread nD τ).loc cc0_scratch0) ↦{fullShare} f)) := by
  unfold sPts owns
  iintro ⟨⟨%f, -, H0⟩, ⟨%g, -, H1⟩⟩
  iapply ((Entails.of_eq (bigSep_two fun n : Fin 2 => iprop(∃ f, (((c : Thread nD τ).loc cc0_scratch0) ↦[sBlock c n]{fullShare} f))).symm).trans
    (Ring.pointsTo_blocks_join_exists (sBlock c) (s_disj c) (s_cover c) f))
  isplitl [H0]
  · iexists f; iexact H0
  · iexists g; iexact H1

end Cert.KernelIdeal.AllReduce

end
-- ==== Proof.KernelIdeal.Deal.lean ====
/-
# What the launch deals

Each device has sixty-one cells: its barrier, a send and a receive cell for each of the thirty transfers. The launch makes
their round records and tokens; the tokens then go to the devices that will pay the duties: a barrier token to the partner
of its step, a receive token to the partner of its transfer, a send token stays. The credit a device starts with is what all
devices together owe its cells.
-/
module

public import proofs.«01_k».proof.Proof.KernelIdeal.Slots
public import Idealize.ShloMosaic.Lib.Pipeline.Launch
public import Idealize.ShloMosaic.Lib.Pipeline.Kit

@[expose] public section

set_option maxRecDepth 10000

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells are distinct -/

theorem dev_of {c c' : Dev nD} {s s' : SemLoc sig} (h : (((c : Thread nD τ), s) : GSem nD τ sig) = ((c' : Thread nD τ), s')) : c = c' :=
  congrArg (fun g : GSem nD τ sig => g.1.1) h
theorem bar_inj : Function.Injective (barCell : Dev nD → GSem nD τ sig) := fun _ _ h => dev_of h
theorem send_inj : Function.Injective (fun p : Dev nD × Fin 30 => sendCell p.1 p.2.val) := by
  rintro ⟨c, n⟩ ⟨c', n'⟩ h
  have h1 : c = c' := dev_of h
  have h2 : sSem n.val = sSem n'.val := SemLoc.dma.inj (congrArg Prod.snd h)
  have h3 := congrArg Fin.val h2
  rw [sSem_val n.isLt, sSem_val n'.isLt] at h3
  rw [h1, Fin.ext (Nat.add_left_cancel h3)]
theorem recv_inj : Function.Injective (fun p : Dev nD × Fin 30 => recvCell p.1 p.2.val) := by
  rintro ⟨c, n⟩ ⟨c', n'⟩ h
  have h1 : c = c' := dev_of h
  have h2 : rSem n.val = rSem n'.val := SemLoc.dma.inj (congrArg Prod.snd h)
  have h3 := congrArg Fin.val h2
  rw [rSem_val n.isLt, rSem_val n'.isLt] at h3
  rw [h1, Fin.ext (Nat.add_left_cancel h3)]
theorem bar_ne_dma (c c' : Dev nD) (q) : barCell c ≠ ((c' : Thread nD τ), .dma q) := fun h => by cases congrArg Prod.snd h
theorem send_ne_recv (c c' : Dev nD) {n n' : ℕ} (hn : n < 30) (hn' : n' < 30) : sendCell c n ≠ recvCell c' n' := fun h => by
  have h2 : sSem n = rSem n' := SemLoc.dma.inj (congrArg Prod.snd h)
  have h3 := congrArg Fin.val h2
  rw [sSem_val hn, rSem_val hn'] at h3
  omega

def barCells : Finset (GSem nD τ sig) := Finset.univ.map ⟨barCell, bar_inj⟩
def sendCells : Finset (GSem nD τ sig) := Finset.univ.map ⟨_, send_inj⟩
def recvCells : Finset (GSem nD τ sig) := Finset.univ.map ⟨_, recv_inj⟩
def cells : Finset (GSem nD τ sig) := barCells ∪ (sendCells ∪ recvCells)

theorem send_recv_disj : Disjoint sendCells recvCells := by
  rw [Finset.disjoint_left]
  intro g hg hg'
  obtain ⟨⟨c, n⟩, -, rfl⟩ := Finset.mem_map.mp hg
  obtain ⟨⟨c', n'⟩, -, h⟩ := Finset.mem_map.mp hg'
  exact send_ne_recv c c' n.isLt n'.isLt h.symm
theorem bar_disj : Disjoint barCells (sendCells ∪ recvCells) := by
  rw [Finset.disjoint_left]
  intro g hg hg'
  obtain ⟨c, -, rfl⟩ := Finset.mem_map.mp hg
  rcases Finset.mem_union.mp hg' with hg' | hg'
  · obtain ⟨⟨c', n'⟩, -, h⟩ := Finset.mem_map.mp hg'
    exact bar_ne_dma c c' _ h.symm
  · obtain ⟨⟨c', n'⟩, -, h⟩ := Finset.mem_map.mp hg'
    exact bar_ne_dma c c' _ h.symm

/-- Something of each cell of device `c`. -/
def parts (Φ : GSem nD τ sig → sProp 𝕄) (c : Dev nD) : sProp 𝕄 :=
  iprop(Φ (barCell c) ∗ (bigSep (Finset.range 30) fun n => Φ (sendCell c n)) ∗ (bigSep (Finset.range 30) fun n => Φ (recvCell c n)))

omit [FloatOps F] in
theorem over_cells (Φ : GSem nD τ sig → sProp 𝕄) : bigSep cells Φ = bigSep Finset.univ fun c : Dev nD => parts Φ c := by
  unfold cells parts
  rw [bigSep_union bar_disj, bigSep_union send_recv_disj, bigSep_sep', bigSep_sep']
  unfold barCells sendCells recvCells
  rw [bigSep_map, bigSep_map, bigSep_map, bigSep_univ_prod, bigSep_univ_prod]
  rw [bigSep_congr fun (c : Dev nD) _ => (over_fin 30 fun n => Φ (sendCell c n)).symm,
    bigSep_congr fun (c : Dev nD) _ => (over_fin 30 fun n => Φ (recvCell c n)).symm]
  rfl

omit [FloatOps F] in
theorem parts_sep (Φ Ψ : GSem nD τ sig → sProp 𝕄) (c : Dev nD) : parts (fun g => iprop(Φ g ∗ Ψ g)) c ⊣⊢ iprop(parts Φ c ∗ parts Ψ c) := by
  unfold parts
  rw [bigSep_sep', bigSep_sep']
  constructor
  · iintro ⟨⟨A, A'⟩, ⟨B, B'⟩, C, C'⟩
    isplitl [A B C]
    · isplitl [A]; · iexact A
      isplitl [B] <;> iassumption
    · isplitl [A']; · iexact A'
      isplitl [B'] <;> iassumption
  · iintro ⟨⟨A, B, C⟩, A', B', C'⟩
    isplitl [A A']
    · isplitl [A] <;> iassumption
    isplitl [B B']
    · isplitl [B] <;> iassumption
    · isplitl [C] <;> iassumption

omit [FloatOps F] in
theorem parts_mono {Φ Ψ : GSem nD τ sig → sProp 𝕄} (h : ∀ g, Φ g ⊢ Ψ g) (c : Dev nD) : parts Φ c ⊢ parts Ψ c := by
  unfold parts
  exact sep_mono (h _) (sep_mono (bigSep_mono fun _ _ => h _) (bigSep_mono fun _ _ => h _))

omit [FloatOps F] in
theorem parts_fupd (Φ : GSem nD τ sig → sProp 𝕄) (c : Dev nD) :
    parts (fun g => iprop(|={Set.univ}=> Φ g)) c ⊢ |={Set.univ}=> parts Φ c := by
  unfold parts
  iintro ⟨A, B, C⟩
  ihave B' := (bigSep_fupd _ _) $$ B
  ihave C' := (bigSep_fupd _ _) $$ C
  imod A with A
  imod B' with B
  imod C' with C
  imodintro
  isplitl [A]; · iexact A
  isplitl [B] <;> iassumption

/-! ## Tokens -/

def barToks : Finset (GSem nD τ sig × ℕ × Fin 5) := Finset.univ.map ⟨fun p : Dev nD × Fin 5 => (barCell p.1, 0, p.2), by
  rintro ⟨c, s⟩ ⟨c', s'⟩ h
  exact Prod.ext (bar_inj (congrArg Prod.fst h)) (congrArg (fun x => x.2.2) h)⟩
def sendToks : Finset (GSem nD τ sig × ℕ × Fin 5) := Finset.univ.map ⟨fun p : Dev nD × Fin 30 => (sendCell p.1 p.2.val, 0, 0),
  fun _ _ h => send_inj (congrArg Prod.fst h)⟩
def recvToks : Finset (GSem nD τ sig × ℕ × Fin 5) := Finset.univ.map ⟨fun p : Dev nD × Fin 30 => (recvCell p.1 p.2.val, 0, 0),
  fun _ _ h => recv_inj (congrArg Prod.fst h)⟩
def tokens : Finset (GSem nD τ sig × ℕ × Fin 5) := barToks ∪ (sendToks ∪ recvToks)

theorem send_recv_toks : Disjoint sendToks recvToks := by
  rw [Finset.disjoint_left]
  intro g hg hg'
  obtain ⟨⟨c, n⟩, -, rfl⟩ := Finset.mem_map.mp hg
  obtain ⟨⟨c', n'⟩, -, h⟩ := Finset.mem_map.mp hg'
  exact send_ne_recv c c' n.isLt n'.isLt (congrArg Prod.fst h).symm
theorem bar_toks : Disjoint barToks (sendToks ∪ recvToks) := by
  rw [Finset.disjoint_left]
  intro g hg hg'
  obtain ⟨⟨c, s⟩, -, rfl⟩ := Finset.mem_map.mp hg
  rcases Finset.mem_union.mp hg' with hg' | hg'
  · obtain ⟨⟨c', n'⟩, -, h⟩ := Finset.mem_map.mp hg'
    exact bar_ne_dma c c' _ (congrArg Prod.fst h).symm
  · obtain ⟨⟨c', n'⟩, -, h⟩ := Finset.mem_map.mp hg'
    exact bar_ne_dma c c' _ (congrArg Prod.fst h).symm

/-- The tokens of device `c`'s own cells. -/
def toks (c : Dev nD) : sProp 𝕄 :=
  iprop((bigSep Finset.univ fun s : Fin 5 => dutyTok EX (barCell c) 0 s) ∗ (bigSep (Finset.range 30) fun n => dutyTok EX (sendCell c n) 0 0)
    ∗ (bigSep (Finset.range 30) fun n => dutyTok EX (recvCell c n) 0 0))

/-- The tokens of the duties device `c` pays. -/
def payToks (c : Dev nD) : sProp 𝕄 :=
  iprop((bigSep Finset.univ fun s : Fin 5 => dutyTok EX (barCell (pair s c)) 0 s) ∗ (bigSep (Finset.range 30) fun n => dutyTok EX (sendCell c n) 0 0)
    ∗ (bigSep (Finset.range 30) fun n => dutyTok EX (recvCell (peer n c) n) 0 0))

omit [FloatOps F] in
theorem over_tokens : bigSep tokens (fun x => (dutyTok EX x.1 x.2.1 x.2.2 : sProp 𝕄)) = bigSep Finset.univ fun c : Dev nD => toks (F := F) c := by
  unfold tokens toks
  rw [bigSep_union bar_toks, bigSep_union send_recv_toks, bigSep_sep', bigSep_sep']
  unfold barToks sendToks recvToks
  rw [bigSep_map, bigSep_map, bigSep_map, bigSep_univ_prod, bigSep_univ_prod, bigSep_univ_prod]
  rw [bigSep_congr fun (c : Dev nD) _ => (over_fin 30 fun n => (dutyTok EX (sendCell c n) 0 0 : sProp 𝕄)).symm,
    bigSep_congr fun (c : Dev nD) _ => (over_fin 30 fun n => (dutyTok EX (recvCell c n) 0 0 : sProp 𝕄)).symm]
  rfl

omit [FloatOps F] in
/-- Two products in the other order. -/
theorem swap_sep {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod fun p : A × B => Φ p.1 p.2, ← bigSep_univ_prod fun p : B × A => Φ p.2 p.1,
    bigSep_univ_equiv (Equiv.prodComm B A) fun p : A × B => Φ p.1 p.2]
  rfl

def pairEquiv (s : Fin 5) : Dev nD ≃ Dev nD := ⟨pair s, pair s, pair_pair s, pair_pair s⟩
def peerEquiv (n : ℕ) : Dev nD ≃ Dev nD := ⟨peer n, peer n, peer_peer n, peer_peer n⟩

omit [FloatOps F] in
theorem toks_around : (bigSep Finset.univ fun c : Dev nD => toks (F := F) c) = bigSep Finset.univ fun c : Dev nD => payToks (F := F) c := by
  unfold toks payToks
  rw [bigSep_sep', bigSep_sep', bigSep_sep', bigSep_sep']
  have h1 : (bigSep Finset.univ fun c : Dev nD => bigSep Finset.univ fun s : Fin 5 => (dutyTok EX (barCell c) 0 s : sProp 𝕄))
      = bigSep Finset.univ fun c : Dev nD => bigSep Finset.univ fun s : Fin 5 => dutyTok EX (barCell (pair s c)) 0 s := by
    rw [swap_sep, swap_sep fun (c : Dev nD) (s : Fin 5) => (dutyTok EX (barCell (pair s c)) 0 s : sProp 𝕄)]
    exact bigSep_congr fun s _ => bigSep_univ_equiv (pairEquiv s) fun c => (dutyTok EX (barCell c) 0 s : sProp 𝕄)
  have h2 : (bigSep Finset.univ fun c : Dev nD => bigSep (Finset.range 30) fun n => (dutyTok EX (recvCell c n) 0 0 : sProp 𝕄))
      = bigSep Finset.univ fun c : Dev nD => bigSep (Finset.range 30) fun n => dutyTok EX (recvCell (peer n c) n) 0 0 := by
    rw [bigSep_congr fun (c : Dev nD) _ => (over_fin 30 fun n => (dutyTok EX (recvCell c n) 0 0 : sProp 𝕄)).symm,
      bigSep_congr fun (c : Dev nD) _ => (over_fin 30 fun n => (dutyTok EX (recvCell (peer n c) n) 0 0 : sProp 𝕄)).symm,
      swap_sep, swap_sep fun (c : Dev nD) (n : Fin 30) => (dutyTok EX (recvCell (peer n.val c) n.val) 0 0 : sProp 𝕄)]
    exact bigSep_congr fun n _ => bigSep_univ_equiv (peerEquiv n.val) fun c => (dutyTok EX (recvCell c n.val) 0 0 : sProp 𝕄)
  rw [h1, h2]

/-! ## The start element -/

section Deal
variable (V : ℕ → Dev nD → FVec F S64x512 .bf16)

def u₀ : UU :=
  (initOf (Pipeline.cells cfgs cellOf_inj) (Pipeline.launchToks cfgs cellOf_inj), initOf cells tokens)

/-- What the start element deals device `c`. -/
def G (c : Dev nD) : sProp 𝕄 :=
  iprop(parts (fun g => roundState EX (xRd V) g 0) c ∗ parts (fun g => atPos EX g 0 ∅ 0) c ∗ parts (fun g => reached EX g 0) c ∗ toks (F := F) c)

omit [FloatOps F] in
theorem fund_all : BI.own (EX (initOf cells tokens)) ⊢ (|==> bigSep Finset.univ (G V) : sProp 𝕄) := by
  iintro HX
  imod (Rounds.fund EX (xRd V) cells tokens) $$ HX with ⟨Hst, Hr, Hat, Htok⟩
  imodintro
  ihave Hst' := (Entails.of_eq (over_cells fun g => roundState EX (xRd V) g 0)) $$ Hst
  ihave Hat' := (Entails.of_eq (over_cells fun g => atPos EX g 0 ∅ 0)) $$ Hat
  ihave Hr' := (Entails.of_eq (over_cells fun g => reached EX g 0)) $$ Hr
  ihave Htok' := (Entails.of_eq over_tokens) $$ Htok
  unfold G; simp only [bigSep_sep']
  isplitl [Hst']; · iexact Hst'
  isplitl [Hat']; · iexact Hat'
  isplitl [Hr']; · iexact Hr'
  iexact Htok'

/-! ## The semaphores at zero -/

/-- The kernel's own sixty semaphores: the send ones, then the receive ones. -/
abbrev osem (k : Fin 60) : SemLoc sig := .dma ⟨8 + k.val, by have := k.isLt; show 8 + k.val < 68; omega⟩

theorem ownSemFacts : Pipeline.OwnSemFacts cfg0.spec osem := by
  refine ⟨by decide +kernel, fun a b h => ?_, by decide +kernel⟩
  have h1 := congrArg Fin.val (SemLoc.dma.inj h)
  exact Fin.ext (Nat.add_left_cancel h1)

omit [FloatOps F] in
theorem ownSems0_eq (c : Dev nD) : (Pipeline.ownSems0 (Ix := Unit) (Name := ℕ) (U := UU) (Lvl := ℕ) (Val := Elt F) (τ := τ) osem c : sProp 𝕄)
    = iprop((bigSep (Finset.range 30) fun n => semVal (sendCell c n) 0) ∗ (bigSep (Finset.range 30) fun n => semVal (recvCell c n) 0)) := by
  unfold Pipeline.ownSems0
  rw [bigSep_univ_equiv (finProdFinEquiv : Fin 2 × Fin 30 ≃ Fin 60), bigSep_univ_prod, bigSep_two,
    ← over_fin 30 fun n => (semVal (sendCell c n) 0 : sProp 𝕄), ← over_fin 30 fun n => (semVal (recvCell c n) 0 : sProp 𝕄)]
  have e1 (n : Fin 30) : osem (finProdFinEquiv ((0 : Fin 2), n)) = .dma (sSem n.val) := by
    refine congrArg SemLoc.dma (Fin.ext ?_)
    rw [sSem_val n.isLt]
    show 8 + (n.val + 30 * 0) = 8 + n.val
    omega
  have e2 (n : Fin 30) : osem (finProdFinEquiv ((1 : Fin 2), n)) = .dma (rSem n.val) := by
    refine congrArg SemLoc.dma (Fin.ext ?_)
    rw [rSem_val n.isLt]
    show 8 + (n.val + 30 * 1) = 38 + n.val
    omega
  rw [bigSep_congr fun n _ => by rw [e1 n], bigSep_congr (s := Finset.univ) (Φ := fun n : Fin 30 => (semVal ((c.tc : Thread nD τ), osem (finProdFinEquiv ((1 : Fin 2), n))) 0 : sProp 𝕄)) fun n _ => by rw [e2 n]]

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0 (c : Dev nD) :
    iprop(Pipeline.ownSems0 (Ix := Unit) (Name := ℕ) (U := UU) (Lvl := ℕ) (Val := Elt F) (τ := τ) osem c ∗ unscopedSems0 c)
      ⊢ (parts (fun g => semVal g 0) c : sProp 𝕄) := by
  rw [ownSems0_eq, unscopedSems0_eq]
  unfold parts
  iintro ⟨⟨HS, HV⟩, HB⟩
  isplitl [HB]; · iexact HB
  isplitl [HS] <;> iassumption

/-! ## The invariants of all cells -/

/-- After the invariants are made: the records of device `c`'s cells, its positions, the tokens of its cells. -/
def made (c : Dev nD) : sProp 𝕄 := iprop(recs V c ∗ parts (fun g => atPos EX g 0 ∅ 0) c ∗ toks (F := F) c)

theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> made V c := by
  unfold G made
  iintro ⟨Hos, Hus, Hst, Hat, Hr, Htok⟩
  ihave Hv := (sems0 (F := F) c) $$ [Hos Hus]
  · isplitl [Hos] <;> iassumption
  imod (show iprop(parts (fun g => semVal g 0) c ∗ parts (fun g => roundState EX (xRd V) g 0) c)
      ⊢ (|={Set.univ}=> parts (fun g => iprop(∃ κ : ℕ, cellInv EX (xRd V) κ g)) c : sProp 𝕄) from
        ((parts_sep _ _ c).2.trans (parts_mono (fun g => (Rounds.body_intro EX (xRd V) g).trans inv_alloc) c)).trans (parts_fupd _ c)) $$ [Hv Hst] with Hinv
  · isplitl [Hv] <;> iassumption
  imodintro
  isplitl [Hinv Hr]
  · iapply (show iprop(parts (fun g => iprop(∃ κ : ℕ, cellInv EX (xRd V) κ g)) c ∗ parts (fun g => reached EX g 0) c) ⊢ recs V c from
      (parts_sep _ _ c).2.trans (parts_mono (Ψ := rec V) (fun g => by
        unfold rec
        iintro ⟨⟨%κ, H⟩, H'⟩
        iexists κ
        isplitl [H] <;> iassumption) c))
    isplitl [Hinv] <;> iassumption
  isplitl [Hat]; · iexact Hat
  iexact Htok

/-- What device `c` starts with, besides credit, levels and buffers. -/
def G' (c : Dev nD) : sProp 𝕄 :=
  iprop((bigSep Finset.univ fun c => recs V c) ∗ parts (fun g => atPos EX g 0 ∅ 0) c ∗ payToks (F := F) c)

theorem with_persistent {I : Type} [DecidableEq I] {S : Finset I} {R : sProp 𝕄} [BI.Persistent R] {Φ : I → sProp 𝕄} :
    iprop(R ∗ bigSep S Φ) ⊢ bigSep S fun i => iprop(R ∗ Φ i) :=
  (sep_mono_left (BI.bigSep_of_persistent S R)).trans (by rw [← bigSep_sep'])

theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) := by
  have h : (bigSep Finset.univ (made V) : sProp 𝕄) ⊢ bigSep Finset.univ (G' V) := by
    unfold made G'
    rw [bigSep_sep', bigSep_sep', toks_around, ← bigSep_sep']
    exact with_persistent
  exact ((bigSep_mono fun c _ => core_alloc V c).trans (bigSep_fupd _ _)).trans (BI.fupd_mono h)

end Deal

/-! ## The credit at the start -/

theorem owe_apply (d : Dev nD) (g : GSem nD τ sig) : owe d 0 g () = ∑ p ∈ Finset.range 35, if payCell d p = g then payAmt p else 0 := by
  unfold owe
  rw [Finset.sum_apply, Finsupp.finset_sum_apply, ← Finset.range_eq_Ico]
  refine Finset.sum_congr rfl fun p _ => ?_
  rw [tallyAt_apply]
  by_cases h : payCell d p = g
  · rw [if_pos h, if_pos ⟨h.symm, rfl⟩]
  · rw [if_neg h, if_neg fun h' => h h'.1.symm]

theorem payCell_sig (d : Dev nD) {p : ℕ} (hp : p < 5) : payCell d p = barCell (pair ⟨p, hp⟩ d) := by
  unfold payCell; rw [dif_pos hp]
theorem payCell_send (d : Dev nD) {p : ℕ} (hp : ¬ p < 5) : payCell d p = recvCell (peer (p - 5) d) (p - 5) := by
  unfold payCell; rw [dif_neg hp]

/-- One device pays a given cell by payment `p`, if the cell is of that payment's kind. -/
theorem one_payer (e : Dev nD ≃ Dev nD) (c : Dev nD) (f : Dev nD → GSem nD τ sig) (hf : Function.Injective f) (k : ℕ) :
    (∑ d : Dev nD, if f (e d) = f c then k else 0) = k := by
  rw [Finset.sum_congr rfl fun d _ => show (if f (e d) = f c then k else 0) = if e.symm c = d then k else 0 from by
    by_cases h : e.symm c = d
    · rw [if_pos h, if_pos (by rw [← h, Equiv.apply_symm_apply])]
    · rw [if_neg h, if_neg fun h' => h (by rw [← hf h', Equiv.symm_apply_apply])]]
  rw [Finset.sum_ite_eq, if_pos (Finset.mem_univ _)]

theorem owed_bar (c : Dev nD) : (∑ d : Dev nD, owe d 0 (barCell c) ()) = 5 := by
  rw [Finset.sum_congr rfl fun d _ => owe_apply d (barCell c), Finset.sum_comm]
  have h (p : ℕ) (_ : p ∈ Finset.range 35) : (∑ d : Dev nD, if payCell d p = barCell c then payAmt p else 0) = if p < 5 then 1 else 0 := by
    by_cases hp : p < 5
    · rw [if_pos hp]
      have e : payAmt p = 1 := if_pos hp
      rw [e]
      exact (Finset.sum_congr rfl fun d _ => by rw [payCell_sig d hp]; rfl).trans (one_payer (pairEquiv ⟨p, hp⟩) c barCell bar_inj 1)
    · rw [if_neg hp]
      exact Finset.sum_eq_zero fun d _ => if_neg fun h => bar_ne_dma _ _ _ ((payCell_send d hp).symm.trans h).symm
  rw [Finset.sum_congr rfl h]
  decide

theorem owed_recv (c : Dev nD) {n : ℕ} (hn : n < 30) : (∑ d : Dev nD, owe d 0 (recvCell c n) ()) = N := by
  rw [Finset.sum_congr rfl fun d _ => owe_apply d (recvCell c n), Finset.sum_comm]
  have h (p : ℕ) (h35 : p ∈ Finset.range 35) : (∑ d : Dev nD, if payCell d p = recvCell c n then payAmt p else 0) = if n + 5 = p then N else 0 := by
    have h35 := Finset.mem_range.mp h35
    by_cases hp : p < 5
    · rw [if_neg (by omega)]
      exact Finset.sum_eq_zero fun d _ => if_neg fun h => bar_ne_dma _ _ _ ((payCell_sig d hp).symm.trans h)
    · have e : payAmt p = N := if_neg hp
      rw [e]
      by_cases hn' : n + 5 = p
      · subst hn'
        rw [if_pos rfl]
        exact (Finset.sum_congr rfl fun d _ => by rw [payCell_send d hp, Nat.add_sub_cancel]; rfl).trans
          (one_payer (peerEquiv n) c (fun c => recvCell c n) (fun _ _ h => dev_of h) N)
      · rw [if_neg hn']
        refine Finset.sum_eq_zero fun d _ => if_neg fun h => hn' ?_
        have h2 : (fun p : Dev nD × Fin 30 => recvCell p.1 p.2.val) (peer (p - 5) d, ⟨p - 5, by omega⟩) = (fun p : Dev nD × Fin 30 => recvCell p.1 p.2.val) (c, ⟨n, hn⟩) :=
          (payCell_send d hp).symm.trans h
        have h3 := congrArg (fun x : Dev nD × Fin 30 => x.2.val) (recv_inj h2)
        have h4 : p - 5 = n := h3
        omega
  rw [Finset.sum_congr rfl h, Finset.sum_ite_eq, if_pos (Finset.mem_range.mpr (by omega))]

theorem launch_bar (c : Dev nD) :
    tallyOn (barCell c) (launchCredit (Pipeline.owing fun d => owe d 0) 0 (barCell c)) = (tallyAt (barCell c) () 5 : CellTallies nD τ sig Unit) := by
  unfold tallyAt; refine congrArg _ (Finsupp.ext fun u => ?_); cases u
  rw [Pipeline.launchCredit_owing, Finsupp.single_eq_same, owed_bar]
theorem launch_recv (c : Dev nD) {n : ℕ} (hn : n < 30) :
    tallyOn (recvCell c n) (launchCredit (Pipeline.owing fun d => owe d 0) 0 (recvCell c n)) = (tallyAt (recvCell c n) () N : CellTallies nD τ sig Unit) := by
  unfold tallyAt; refine congrArg _ (Finsupp.ext fun u => ?_); cases u
  rw [Pipeline.launchCredit_owing, Finsupp.single_eq_same, owed_recv c hn]

def recvEmb : Fin 30 ↪ SemLoc sig := ⟨fun n => .dma (rSem n.val), fun a b h => by
  have h3 := congrArg Fin.val (SemLoc.dma.inj h)
  rw [rSem_val a.isLt, rSem_val b.isLt] at h3
  exact Fin.ext (Nat.add_left_cancel h3)⟩

omit [FloatOps F] in
theorem creds (c : Dev nD) :
    (Pipeline.launchCred (fun d => owe d 0) c : sProp 𝕄)
      ⊢ iprop(cred (tallyAt (barCell c) () 5) ∗ (bigSep (Finset.range 30) fun n => cred (tallyAt (recvCell c n) () N))) := by
  unfold Pipeline.launchCred
  rw [bigSep_univ_at _ (SemLoc.reg barS), launch_bar]
  refine sep_mono_right ?_
  refine (bigSep_subset (t := Finset.univ.map recvEmb) fun x hx => ?_).trans ?_
  · obtain ⟨n, -, rfl⟩ := Finset.mem_map.mp hx
    exact Finset.mem_erase.mpr ⟨(by rintro h; cases h), Finset.mem_univ _⟩
  · rw [bigSep_map, ← over_fin 30 fun n => (cred (tallyAt (recvCell c n) () N) : sProp 𝕄)]
    exact bigSep_mono fun n _ => Entails.of_eq (congrArg cred (launch_recv c n.isLt))

end Cert.KernelIdeal.AllReduce

end
-- ==== Proof.KernelIdeal.Launch.lean ====
/-
# The launch

The pipeline's proof data around the body: what a device holds before and after its one grid point, what its staging buffers
hold, and the run of the whole mesh.
-/
module

public import proofs.«01_k».proof.Proof.KernelIdeal.Deal
public import proofs.«01_k».proof.Proof.Gen.KernelIdeal.Launch
public import proofs.«01_k».proof.Proof.Gen.KernelIdeal.Points
public import Idealize.ShloMosaic.Lib.Pipeline.CollectiveSegs
public import Idealize.ShloMosaic.Lib.Tactic

@[expose] public section

set_option maxRecDepth 10000

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The machine before the run: memory `m`, every counter at zero. -/
abbrev start₀ : MemSt nD τ sig (Elt F) := ⟨m, fun _ => 0, ρ⟩

/-! ## What the staging buffers hold -/

def xOf (c : Dev nD) : FVec F S64x512 .bf16 := (win0_0.blk (0 : Fin 1)).view.read (Elt F) (m ((c : Thread nD τ).loc main_arg0))
def wiOf (l : ℕ) (c : Dev nD) : FVec F S512x1024 .bf16 := match l with
  | 0 => (win0_1.blk (0 : Fin 1)).view.read (Elt F) (m ((c : Thread nD τ).loc main_arg1))
  | 1 => (win0_3.blk (0 : Fin 1)).view.read (Elt F) (m ((c : Thread nD τ).loc main_arg2))
  | _ => (win0_5.blk (0 : Fin 1)).view.read (Elt F) (m ((c : Thread nD τ).loc main_arg3))
def woOf (l : ℕ) (c : Dev nD) : FVec F S1024x512 .bf16 := match l with
  | 0 => (win0_2.blk (0 : Fin 1)).view.read (Elt F) (m ((c : Thread nD τ).loc main_arg4))
  | 1 => (win0_4.blk (0 : Fin 1)).view.read (Elt F) (m ((c : Thread nD τ).loc main_arg5))
  | _ => (win0_6.blk (0 : Fin 1)).view.read (Elt F) (m ((c : Thread nD τ).loc main_arg6))

/-- What device `c`'s result window holds after the body. -/
def outAt (c : Dev nD) : Vec F S64x512 .f32 := result (xOf m) (wiOf m) (woOf m) c
/-- What the transfers carry. -/
abbrev VV : ℕ → Dev nD → FVec F S64x512 .bf16 := sent (xOf m) (wiOf m) (woOf m)

/-! ## The proof data -/

def start (c : Dev nD) : sProp 𝕄 :=
  iprop(know (VV m) ∗ (bigSep Finset.univ fun s : Fin 5 => dutyTok EX (barCell (pair s c)) 0 s) ∗ atPos EX (barCell c) 0 ∅ 0
    ∗ cred (tallyAt (barCell c) () 5)
    ∗ (bigSep (Finset.range 30) fun n => iprop(dutyTok EX (sendCell c n) 0 0 ∗ dutyTok EX (recvCell (peer n c) n) 0 0))
    ∗ (bigSep (Finset.range 30) fun n => wait (F := F) c n))

/-- Before the point. -/
def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After the point: every cell closed, the slots and the halves back. -/
def Φ₁ (c : Dev nD) : sProp 𝕄 :=
  iprop(semVal (barCell c) 0 ∗ (bigSep (Finset.range 30) fun n => fin (F := F) c n) ∗ (∃ a b, sPts c 0 a ∗ sPts c 1 b))

def dats (_ : Fin 1) (c : Dev nD) : Dat τ (Elt F) Unit ℕ UU ℕ cfg0 c where
  A w := (start₀ m ρ).mem ((cfg0.win w).arr.view.loc (c : Thread nD τ))
  after w _ := match w with
    | ⟨0, _⟩ => xOf m c
    | ⟨1, _⟩ => wiOf m 0 c
    | ⟨2, _⟩ => woOf m 0 c
    | ⟨3, _⟩ => wiOf m 1 c
    | ⟨4, _⟩ => woOf m 1 c
    | ⟨5, _⟩ => wiOf m 2 c
    | ⟨6, _⟩ => woOf m 2 c
    | ⟨7, _⟩ => outAt m c
  Φ t := match t with
    | ⟨0, _⟩ => Φ₀ m c
    | ⟨_ + 1, _⟩ => Φ₁ c
  q _ := fullShare
  owed t := match t with
    | ⟨0, _⟩ => owe c 0
    | ⟨_ + 1, _⟩ => 0

theorem one_point : cfg0.N = 1 := by decide
def t₀ : Fin cfg0.N := ⟨0, by decide⟩
theorem only_point (t : Fin cfg0.N) : t = t₀ := Fin.ext (by have := t.isLt; have := one_point; show t.val = 0; omega)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Staging buffer `b` of device `c` holding `X`. -/
abbrev holds (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem holds_buf (c : Dev nD) (b : Ref sig .tc) (X Y : b.ty.Contents (Elt F)) (h : X = Y) : (holds (F := F) c b X) ⊢ (buf c b Y : sProp 𝕄) := by
  subst h; unfold buf; iintro ⟨%f, %hf, H⟩; subst hf; iexact H
omit [FloatOps F] in
theorem buf_holds (c : Dev nD) (b : Ref sig .tc) (X : b.ty.Contents (Elt F)) : (buf c b X : sProp 𝕄) ⊢ holds (F := F) c b X := by
  unfold buf; iintro H; iexists X; isplitr; · ipureintro; rfl
  iexact H

/-! ## The body's obligation -/

def bodyPre (c : Dev nD) : sProp 𝕄 :=
  iprop(Φ₀ m c ∗ (dats m ρ 0 c).owesAt () t₀.castSucc
    ∗ (∃ d, holds c cc0_stg0_0 ((dats m ρ 0 c).before (0 : Fin 8) t₀ d))
    ∗ (∃ d, holds c cc0_stg1_0 ((dats m ρ 0 c).before (1 : Fin 8) t₀ d))
    ∗ (∃ d, holds c cc0_stg2_0 ((dats m ρ 0 c).before (2 : Fin 8) t₀ d))
    ∗ (∃ d, holds c cc0_stg3_0 ((dats m ρ 0 c).before (3 : Fin 8) t₀ d))
    ∗ (∃ d, holds c cc0_stg4_0 ((dats m ρ 0 c).before (4 : Fin 8) t₀ d))
    ∗ (∃ d, holds c cc0_stg5_0 ((dats m ρ 0 c).before (5 : Fin 8) t₀ d))
    ∗ (∃ d, holds c cc0_stg6_0 ((dats m ρ 0 c).before (6 : Fin 8) t₀ d))
    ∗ (∃ d, holds c cc0_stg7_0 ((dats m ρ 0 c).before (7 : Fin 8) t₀ d)))

def bodyPost (c : Dev nD) : sProp 𝕄 :=
  iprop(Φ₁ c ∗ (dats m ρ 0 c).owesAt () t₀.succ
    ∗ holds c cc0_stg0_0 (xOf m c) ∗ holds c cc0_stg1_0 (wiOf m 0 c) ∗ holds c cc0_stg2_0 (woOf m 0 c)
    ∗ holds c cc0_stg3_0 (wiOf m 1 c) ∗ holds c cc0_stg4_0 (woOf m 1 c) ∗ holds c cc0_stg5_0 (wiOf m 2 c)
    ∗ holds c cc0_stg6_0 (woOf m 2 c) ∗ holds c cc0_stg7_0 (outAt m c))

theorem before_0 (c : Dev nD) (d) : (dats m ρ 0 c).before (0 : Fin 8) t₀ d = xOf m c := by
  unfold Dat.before; rw [if_pos (fetch0_0 t₀)]; rfl
theorem before_1 (c : Dev nD) (d) : (dats m ρ 0 c).before (1 : Fin 8) t₀ d = wiOf m 0 c := by
  unfold Dat.before; rw [if_pos (fetch0_1 t₀)]; rfl
theorem before_2 (c : Dev nD) (d) : (dats m ρ 0 c).before (2 : Fin 8) t₀ d = woOf m 0 c := by
  unfold Dat.before; rw [if_pos (fetch0_2 t₀)]; rfl
theorem before_3 (c : Dev nD) (d) : (dats m ρ 0 c).before (3 : Fin 8) t₀ d = wiOf m 1 c := by
  unfold Dat.before; rw [if_pos (fetch0_3 t₀)]; rfl
theorem before_4 (c : Dev nD) (d) : (dats m ρ 0 c).before (4 : Fin 8) t₀ d = woOf m 1 c := by
  unfold Dat.before; rw [if_pos (fetch0_4 t₀)]; rfl
theorem before_5 (c : Dev nD) (d) : (dats m ρ 0 c).before (5 : Fin 8) t₀ d = wiOf m 2 c := by
  unfold Dat.before; rw [if_pos (fetch0_5 t₀)]; rfl
theorem before_6 (c : Dev nD) (d) : (dats m ρ 0 c).before (6 : Fin 8) t₀ d = woOf m 2 c := by
  unfold Dat.before; rw [if_pos (fetch0_6 t₀)]; rfl

/-- What a device starts with is what the body's steps take. -/
theorem to_entry (c : Dev nD) :
    iprop((bigSep Finset.univ fun s : Fin 5 => dutyTok EX (barCell (pair s c)) 0 s) ∗ atPos EX (barCell c) 0 ∅ 0
      ∗ cred (tallyAt (barCell c) () 5)
      ∗ (bigSep (Finset.range 30) fun n => iprop(dutyTok EX (sendCell c n) 0 0 ∗ dutyTok EX (recvCell (peer n c) n) 0 0))
      ∗ (bigSep (Finset.range 30) fun n => wait (F := F) c n) ∗ (bigSep (Finset.range 30) fun n => rAny (F := F) c n)) ⊢ (entry c : sProp 𝕄) := by
  unfold entry give
  rw [bigSep_sep' Finset.univ (fun s : Fin 5 => bigSep (ofStep s) fun n => rAny (F := F) c n), by_step fun n => rAny (F := F) c n]
  iintro ⟨A, B, C, D, E, G⟩
  isplitl [A G]
  · isplitl [G] <;> iassumption
  isplitl [B]; · iexact B
  isplitl [C]; · iexact C
  isplitl [D] <;> iassumption

theorem owes_start (c : Dev nD) : (dats m ρ 0 c).owesAt () t₀.castSucc ⊢ (ow c 0 : sProp 𝕄) := by
  unfold Dat.owesAt Pipeline.owesWithin ow
  rw [show (dats m ρ 0 c).owed t₀.castSucc = owe c 0 from rfl]
  iintro ⟨%w, -, H⟩; iexists w; iexact H
theorem owes_end (c : Dev nD) : (ow c 35 : sProp 𝕄) ⊢ (dats m ρ 0 c).owesAt () t₀.succ := by
  unfold Dat.owesAt Pipeline.owesWithin ow
  rw [show (dats m ρ 0 c).owed t₀.succ = 0 from rfl, owe_end]
  iintro ⟨%w, H⟩; iexists w; isplitr; · ipureintro; exact fun _ _ => Or.inl trivial
  iexact H

theorem sound_body (c : Dev nD) : bodyPre m ρ c ⊢ W c (printed F) (fun _ => bodyPost m ρ c) := by
  rw [body_eq]
  show _ ⊢ wp frame (wpE (defs₀ (F := F)) 𝒱₀ (c : Thread nD τ) none) Set.univ (.op .deviceId fun d => steps d) _
  rw [wp_deviceId]
  unfold bodyPre Φ₀ start
  iintro ⟨⟨⟨#Hk, H1, H2, H3, H4, H5⟩, Hs, Hr⟩, Ho, ⟨%d0, I0⟩, ⟨%d1, I1⟩, ⟨%d2, I2⟩, ⟨%d3, I3⟩, ⟨%d4, I4⟩, ⟨%d5, I5⟩, ⟨%d6, I6⟩, ⟨%d7, I7⟩⟩
  ihave Hs' := (s_split c) $$ Hs
  icases Hs' with ⟨⟨%a, Ha⟩, ⟨%b, Hb⟩⟩
  ihave Hr' := (r_split c) $$ Hr
  ihave Ho' := (owes_start m ρ c) $$ Ho
  ihave J0 := (holds_buf c cc0_stg0_0 _ _ (before_0 m ρ c d0)) $$ I0
  ihave J1 := (holds_buf c cc0_stg1_0 _ _ (before_1 m ρ c d1)) $$ I1
  ihave J2 := (holds_buf c cc0_stg2_0 _ _ (before_2 m ρ c d2)) $$ I2
  ihave J3 := (holds_buf c cc0_stg3_0 _ _ (before_3 m ρ c d3)) $$ I3
  ihave J4 := (holds_buf c cc0_stg4_0 _ _ (before_4 m ρ c d4)) $$ I4
  ihave J5 := (holds_buf c cc0_stg5_0 _ _ (before_5 m ρ c d5)) $$ I5
  ihave J6 := (holds_buf c cc0_stg6_0 _ _ (before_6 m ρ c d6)) $$ I6
  ihave J7 := (holds_buf c cc0_stg7_0 _ _ rfl) $$ I7
  ihave He := (to_entry c) $$ [H1 H2 H3 H4 H5 Hr']
  · isplitl [H1]; · iexact H1
    isplitl [H2]; · iexact H2
    isplitl [H3]; · iexact H3
    isplitl [H4]; · iexact H4
    isplitl [H5] <;> iassumption
  iapply (wp_steps (xOf m) (wiOf m) (woOf m) c a b _ (fun _ => bodyPost m ρ c)) $$ [He Ha Hb Ho' J0 J1 J2 J3 J4 J5 J6 J7]
  · isplitr; · iexact Hk
    isplitl [He]; · iexact He
    isplitl [Ha]; · iexact Ha
    isplitl [Hb]; · iexact Hb
    isplitl [Ho']; · iexact Ho'
    isplitr [J7]
    · unfold ins
      isplitl [J0]; · iexact J0
      isplitl [J1]; · iexact J1
      isplitl [J2]; · iexact J2
      isplitl [J3]; · iexact J3
      isplitl [J4]; · iexact J4
      isplitl [J5] <;> iassumption
    · iexact J7
  unfold between ins bodyPost Φ₁
  iintro ⟨Hz, ⟨Ha, Hb, Ho, -, -, Hf⟩, ⟨J0, J1, J2, J3, J4, J5, J6⟩, J7⟩
  isplitl [Hz Ha Hb Hf]
  · isplitl [Hz]; · iexact Hz
    isplitl [Hf]; · rw [Finset.range_eq_Ico]; iexact Hf
    iexists _; iexists _
    isplitl [Ha] <;> iassumption
  isplitl [Ho]; · iapply (owes_end m ρ c); iexact Ho
  isplitl [J0]; · iapply (buf_holds c cc0_stg0_0); iexact J0
  isplitl [J1]; · iapply (buf_holds c cc0_stg1_0); iexact J1
  isplitl [J2]; · iapply (buf_holds c cc0_stg2_0); iexact J2
  isplitl [J3]; · iapply (buf_holds c cc0_stg3_0); iexact J3
  isplitl [J4]; · iapply (buf_holds c cc0_stg4_0); iexact J4
  isplitl [J5]; · iapply (buf_holds c cc0_stg5_0); iexact J5
  isplitl [J6]; · iapply (buf_holds c cc0_stg6_0); iexact J6
  iapply (buf_holds c cc0_stg7_0); iexact J7

theorem body_obligation (c : Dev nD) : BodyObligation (dats (F := F) m ρ 0 c) (defs₀ (F := F)) 𝒱₀ () Set.univ := fun t => by
  rw [only_point t]
  rw [bigSep_W0, bigSep_W0]
  simp only [owns_whole_eq]
  exact sound_body m ρ c

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owe d 0) c ∗ prngReg c (ρ c) ∗ G' (VV m) c)
      ⊢ |={Set.univ}=> iprop(start m c ∗ emp) := by
  iintro ⟨-, Hlev, Hcr, -, HG⟩
  ihave Hc := (creds (F := F) c) $$ Hcr
  icases Hc with ⟨H1, HN⟩
  imodintro
  unfold start G' know parts payToks wait
  icases HG with ⟨HR, ⟨PB, PS, PR⟩, TB, TS, TR⟩
  isplitl
  · isplitl [HR Hlev]
    · isplitl [HR] <;> iassumption
    isplitl [TB]; · iexact TB
    isplitl [PB]; · iexact PB
    isplitl [H1]; · iexact H1
    rw [bigSep_sep', bigSep_sep', bigSep_sep']
    isplitl [TS TR]
    · isplitl [TS] <;> iassumption
    isplitl [PS]; · iexact PS
    isplitl [PR] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ fin
  rw [bigSep_sep', bigSep_sep']
  iintro ⟨Hz, ⟨HS, HV, Hr⟩, ⟨%a, %b, Ha, Hb⟩⟩
  isplitl [Hz]; · iexact Hz
  isplitl [HS HV]
  · isplitl [HS] <;> iassumption
  isplitl [Ha Hb]
  · iapply (s_join c a b)
    isplitl [Ha] <;> iassumption
  · iapply (r_join c); iexact Hr

theorem stage_low (w : Fin cfg0.W) (s : Fin (cfg0.win w).nbuf) (c : Dev nD) : lv ((c : Thread nD τ), .dma ((cfg0.win w).sem s)) () ≤ 0 := by
  fin_cases w <;> fin_cases s <;> exact Nat.le_refl 0

theorem waits (c : Dev nD) : (levAts L lv : sProp 𝕄) ⊢ Pipeline.cellsWaits cfgs (dats m ρ) () 0 c :=
  Pipeline.cellsWaits_intro cfgs (dats m ρ) () 0 c fun w s t => by
    rcases t with ⟨_ | k, ht⟩
    · exact mayWait c _ 0 0 (stage_low w s c) fun p _ hp => by unfold payLv; split <;> omega
    · show (levAts L lv : sProp 𝕄) ⊢ MayWait (c : Thread nD τ) _ () 0
      rw [← owe_end c]
      exact mayWait c _ 35 0 (stage_low w s c) fun p h1 h2 => by omega

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every weakly fair execution of the mesh ends, with each window's array at its computed contents and every counter at zero. -/
theorem run_main : θ_run defs (onTc (τ := τ) main) (start₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owe d 0) (howed₀ := fun _ => rfl) (howedN := fun _ => rfl)
    (L := L) (lv := lv) (hL := L_of_ne) (hwaits := waits m ρ)
    (G := G (VV m)) (G' := G' (VV m)) (u₀ := u₀)
    (hu₀ := by
      unfold u₀
      iintro Hu
      ihave H := (ownU_pair _ _) $$ Hu
      icases H with ⟨HP, HX⟩
      imod (fund_all (VV m)) $$ HX with HG
      imodintro
      isplitl [HP] <;> iassumption)
    (hglob := glob (VV m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array is unchanged. -/
theorem final_in (c : Dev nD) (w : Fin cfg0.W) (hw : (cfg0.win w).isOut = false) :
    finalA m ρ c w = m ((cfg0.win w).arr.view.loc (c : Thread nD τ)) :=
  (dats (F := F) m ρ 0 c).arrAt_in w hw _

end Cert.KernelIdeal.AllReduce

end
-- ==== Proof.Value.Result.lean ====
/-
# The arrays after a run

Each window covers its whole array, so what the body finds in a staging buffer is the argument itself, and the result
array ends holding what the body left in the result window.
-/
module

public import proofs.«01_k».proof.Proof.Kernel.Launch

@[expose] public section

set_option maxRecDepth 10000

noncomputable section

namespace Cert.KernelIdeal.AllReduce

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg)

/-! ## The arguments -/

theorem xOf_eq (c : Dev nD) : xOf m c = m ((c : Thread nD τ).loc main_arg0) := by
  have hz : (fun a => win0_0.index t₀ a * main_arg0.ty.shape.size a) = fun _ => 0 := funext fun a => by fin_cases a <;> decide
  exact Memref.read_access_unit_zero (Elt F) main_arg0 hz (fun a => by rw [congrFun hz a]; simp) _
theorem wiOf_0 (c : Dev nD) : wiOf m 0 c = m ((c : Thread nD τ).loc main_arg1) := by
  have hz : (fun a => win0_1.index t₀ a * main_arg1.ty.shape.size a) = fun _ => 0 := funext fun a => by fin_cases a <;> decide
  exact Memref.read_access_unit_zero (Elt F) main_arg1 hz (fun a => by rw [congrFun hz a]; simp) _
theorem wiOf_1 (c : Dev nD) : wiOf m 1 c = m ((c : Thread nD τ).loc main_arg2) := by
  have hz : (fun a => win0_3.index t₀ a * main_arg2.ty.shape.size a) = fun _ => 0 := funext fun a => by fin_cases a <;> decide
  exact Memref.read_access_unit_zero (Elt F) main_arg2 hz (fun a => by rw [congrFun hz a]; simp) _
theorem wiOf_2 (c : Dev nD) : wiOf m 2 c = m ((c : Thread nD τ).loc main_arg3) := by
  have hz : (fun a => win0_5.index t₀ a * main_arg3.ty.shape.size a) = fun _ => 0 := funext fun a => by fin_cases a <;> decide
  exact Memref.read_access_unit_zero (Elt F) main_arg3 hz (fun a => by rw [congrFun hz a]; simp) _
theorem woOf_0 (c : Dev nD) : woOf m 0 c = m ((c : Thread nD τ).loc main_arg4) := by
  have hz : (fun a => win0_2.index t₀ a * main_arg4.ty.shape.size a) = fun _ => 0 := funext fun a => by fin_cases a <;> decide
  exact Memref.read_access_unit_zero (Elt F) main_arg4 hz (fun a => by rw [congrFun hz a]; simp) _
theorem woOf_1 (c : Dev nD) : woOf m 1 c = m ((c : Thread nD τ).loc main_arg5) := by
  have hz : (fun a => win0_4.index t₀ a * main_arg5.ty.shape.size a) = fun _ => 0 := funext fun a => by fin_cases a <;> decide
  exact Memref.read_access_unit_zero (Elt F) main_arg5 hz (fun a => by rw [congrFun hz a]; simp) _
theorem woOf_2 (c : Dev nD) : woOf m 2 c = m ((c : Thread nD τ).loc main_arg6) := by
  have hz : (fun a => win0_6.index t₀ a * main_arg6.ty.shape.size a) = fun _ => 0 := funext fun a => by fin_cases a <;> decide
  exact Memref.read_access_unit_zero (Elt F) main_arg6 hz (fun a => by rw [congrFun hz a]; simp) _

/-! ## The result -/

/-- What the one point writes back is the body's result, read over the whole array. -/
theorem written (c : Dev nD) (t : Fin cfg0.N) (hf : (cfg0.win 7).flush t = true) :
    (dats m ρ 0 c).flushed 7 t = ((cfg0.win 7).blk t).view.read (Elt F) (outAt m c) := by
  obtain rfl := only_point t
  show (cfg0.win 7).cut (grid0.coords t₀) (outAt m c) = _
  have hz : (fun a => win0_7.index t₀ a * main_v1.ty.shape.size a) = fun _ => 0 := funext fun a => by fin_cases a <;> decide
  exact (Memref.read_access_unit_zero (Elt F) main_v1 hz (fun a => by rw [congrFun hz a]; simp) (outAt m c)).symm

/-- The result array ends at what the body left in the result window. -/
theorem final_out (c : Dev nD) : finalA m ρ c 7 = outAt m c :=
  (dats m ρ 0 c).arrAt_eq_of_cover 7 (outAt m c) (written m ρ c) fun i => ⟨t₀, flush0_7 t₀, by
    have hz : ∀ a, win0_7.index t₀ a * win0_7.size a = 0 := fun a => by fin_cases a <;> decide
    have hx : ∀ a, main_v1.ty.shape.size a ≤ win0_7.xsize (grid0.coords t₀) a := fun a => by fin_cases a <;> decide
    show i ∈ ((View.whole main_v1).slice (win0_7.rect t₀)).set
    rw [View.set_slice_whole, Rect.mem_set_unit]
    intro a
    show win0_7.index t₀ a * win0_7.size a ≤ (i a : Nat) ∧ (i a : Nat) < win0_7.index t₀ a * win0_7.size a + win0_7.xsize (grid0.coords t₀) a
    rw [hz a]
    refine ⟨Nat.zero_le _, ?_⟩
    rw [Nat.zero_add]
    exact lt_of_lt_of_le (i a).isLt (hx a)⟩

/-- Every run ends with the result array at the body's result, and every argument as it was. -/
theorem run_result : θ_run defs (onTc (τ := τ) (main (F := F))) (start₀ m ρ) fun r => ∀ c : Dev nD,
    r.2.mem ((c : Thread nD τ).loc main_v1) = outAt m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  (θ_run defs _ _).mono (fun r h c => ⟨(h.1 c 7).trans (final_out m ρ c), (h.1 c 0).trans (final_in m ρ c 0 rfl),
    (h.1 c 1).trans (final_in m ρ c 1 rfl), (h.1 c 3).trans (final_in m ρ c 3 rfl), (h.1 c 5).trans (final_in m ρ c 5 rfl),
    (h.1 c 2).trans (final_in m ρ c 2 rfl), (h.1 c 4).trans (final_in m ρ c 4 rfl), (h.1 c 6).trans (final_in m ρ c 6 rfl)⟩)
    (run_main m ρ)

end Cert.KernelIdeal.AllReduce

end
-- ==== Proof.Value.Layer.lean ====
/-
# One layer over the extended reals

The exchange leaves every device with the sum of the 32 devices' shares. A device's share of the first product sums over
its 512 rows of the weight, so the 32 shares together sum over all 16384. The second product is taken in two halves of
512 columns, which together make up the 1024. So a layer of the kernel, on block `c` of its operands, is block `c` of the layer on
the whole operands.
-/
module

public import proofs.«01_k».proof.Proof.Value.Result
public import proofs.«01_k».proof.Proof.Gen.ReferenceIdeal.Run
public import Idealize.ShloMosaic.Lib.Layout
public import Idealize.ShloMosaic.Lib.MatmulPlain
public import Idealize.ShloMosaic.Lib.StackMember

@[expose] public section

set_option maxRecDepth 10000

noncomputable section

namespace Cert.KernelIdeal.AllReduce

open Cert.KernelIdeal Cert.KernelIdeal.Gen
open Idealize.ShloMosaic
open Idealize.ShloMosaic.ValueIdx Idealize.ShloMosaic.StackMember
open scoped BigOperators

/-! ## The exchange sums over the devices -/

/-- The devices whose shares device `c` has added after `k` steps. -/
def orbit : ℕ → Dev nD → List (Dev nD)
  | 0 => fun c => [c]
  | k + 1 => fun c => orbit k c ++ orbit k (pair ⟨k % 5, Nat.mod_lt _ (by decide)⟩ c)

theorem acc_orbit (p : Dev nD → FVec Ideal S64x512 .bf16) (i : S64x512.Idx) (k : ℕ) (c : Dev nD) :
    acc p k c i = ((orbit k c).map fun d => (p d i : EReal)).sum := by
  induction k generalizing c with
  | zero => show (p c i : EReal) = _; exact (List.sum_singleton).symm
  | succ k ih =>
    show (acc p k c i : EReal) + acc p k (pair ⟨k % 5, Nat.mod_lt _ (by decide)⟩ c) i = _
    rw [ih, ih, orbit, List.map_append, List.sum_append]

/-- After five steps these are all the devices, each once. -/
theorem orbit_all (c : Dev nD) : (orbit 5 c).Perm (List.finRange 32) := by
  have h : ∀ c : Fin 32, (orbit 5 c).Perm (List.finRange 32) := by decide +kernel
  exact h c

theorem acc_all (p : Dev nD → FVec Ideal S64x512 .bf16) (c : Dev nD) (i : S64x512.Idx) :
    (acc p 5 c i : EReal) = ∑ d : Fin 32, p d i := by
  rw [acc_orbit, ((orbit_all c).map _).sum_eq, Fin.sum_univ_def]

/-! ## The products as sums -/

theorem partP_apply (x : FVec Ideal S64x512 .bf16) (w : Vec Ideal S512x1024 .bf16) (i : Fin 64) (j : Fin 1024) :
    partP x w (ix2 i j) = ∑ k : Fin 512, (x (ix2 i k) : EReal) * w (ix2 k j) := by
  unfold partP
  rw [shapeCast_self]
  show FloatOps.matmul (DotDims.plain 64 512 1024) none x w (constant S64x1024 .f32 0x00000000#32) (ix2 i j) = _
  rw [Ideal.matmul_plain_apply]
  show Ideal.ofBits .f32 0x00000000#32 + _ = _
  rw [Ideal.ofBits_zero_f32, zero_add]

theorem half0_apply (p : FVec Ideal S64x1024 .f32) (i : Fin 64) (j : Fin 512) :
    half0 p (ix2 i j) = p (ix2 i (Fin.castAdd 512 j : Fin (512 + 512))) := by
  show extractStridedSlice S64x512 ![0, 0] p slices_S64x1024_o0_0_S64x512 (ix2 i j) = _
  exact extractStridedSlice_apply ![0, 0] p slices_S64x1024_o0_0_S64x512 (ix2 i j) (ix2 i (Fin.castAdd 512 j : Fin (512 + 512)))
    fun a => by fin_cases a <;> first | rfl | exact (Nat.zero_add _).symm
theorem half1_apply (p : FVec Ideal S64x1024 .f32) (i : Fin 64) (j : Fin 512) :
    half1 p (ix2 i j) = p (ix2 i (Fin.natAdd 512 j : Fin (512 + 512))) := by
  show extractStridedSlice S64x512 ![0, 512] p slices_S64x1024_o0_512_S64x512 (ix2 i j) = _
  exact extractStridedSlice_apply ![0, 512] p slices_S64x1024_o0_512_S64x512 (ix2 i j) (ix2 i (Fin.natAdd 512 j : Fin (512 + 512)))
    fun a => by fin_cases a <;> first | rfl | exact (Nat.zero_add _).symm

theorem relu_apply (v : FVec Ideal S64x512 .bf16) (i : S64x512.Idx) : relu v i = max (v i : EReal) 0 := by
  show max (v i : EReal) (Ideal.ofBits .bf16 0x0000#16) = _
  rw [show Ideal.ofBits .bf16 0x0000#16 = 0 by simp [Ideal.ofBits, Ideal.ieee]]

theorem outP_apply (a b : FVec Ideal S64x512 .bf16) (w : Vec Ideal S1024x512 .bf16) (i : Fin 64) (j : Fin 512) :
    outP a b w (ix2 i j) = (∑ k : Fin 512, max (a (ix2 i k) : EReal) 0 * w (ix2 (Fin.castAdd 512 k : Fin (512 + 512)) j))
      + ∑ k : Fin 512, max (b (ix2 i k) : EReal) 0 * w (ix2 (Fin.natAdd 512 k : Fin (512 + 512)) j) := by
  unfold outP
  rw [shapeCast_self]
  show FloatOps.matmul (DotDims.plain 64 512 512) none (relu a) _ (constant S64x512 .f32 0x00000000#32) (ix2 i j)
    + FloatOps.matmul (DotDims.plain 64 512 512) none (relu b) _ (constant S64x512 .f32 0x00000000#32) (ix2 i j) = (_ : EReal)
  rw [Ideal.matmul_plain_apply, Ideal.matmul_plain_apply]
  show (Ideal.ofBits .f32 0x00000000#32 + _) + (Ideal.ofBits .f32 0x00000000#32 + _) = (_ : EReal)
  rw [Ideal.ofBits_zero_f32, zero_add, zero_add]
  refine congrArg₂ (· + ·) (Finset.sum_congr rfl fun k _ => ?_) (Finset.sum_congr rfl fun k _ => ?_)
  · exact congrArg₂ (fun a b : EReal => a * b) (relu_apply _ _)
      (extractStridedSlice_apply ![0, 0] w slices_S1024x512_o0_0_S512x512 (ix2 k j) (ix2 (Fin.castAdd 512 k : Fin (512 + 512)) j)
        fun a => by fin_cases a <;> first | rfl | exact (Nat.zero_add _).symm)
  · exact congrArg₂ (fun a b : EReal => a * b) (relu_apply _ _)
      (extractStridedSlice_apply ![512, 0] w slices_S1024x512_o512_0_S512x512 (ix2 k j) (ix2 (Fin.natAdd 512 k : Fin (512 + 512)) j)
        fun a => by fin_cases a <;> first | rfl | exact (Nat.zero_add _).symm)

/-! ## Sums by blocks -/

/-- Position `k` of block `c`. -/
def pos (c : Fin 32) (k : Fin 512) : Fin 16384 := ⟨c.val * 512 + k.val, by omega⟩

theorem sum_blocks (f : Fin 16384 → EReal) : ∑ q, f q = ∑ c : Fin 32, ∑ k : Fin 512, f (pos c k) := by
  rw [← Fintype.sum_prod_type', ← Equiv.sum_comp (finProdFinEquiv : Fin 32 × Fin 512 ≃ Fin 16384)]
  refine Finset.sum_congr rfl fun p _ => congrArg f (Fin.ext ?_)
  show p.2.val + 512 * p.1.val = p.1.val * 512 + p.2.val
  omega

theorem sum_halves (f : Fin 1024 → EReal) :
    ∑ q, f q = (∑ k : Fin 512, f (Fin.castAdd 512 k : Fin (512 + 512))) + ∑ k : Fin 512, f (Fin.natAdd 512 k : Fin (512 + 512)) :=
  Fin.sum_univ_add (a := 512) (b := 512) f

abbrev SX : Shape := ⟨2, ![64, 16384]⟩
abbrev SI : Shape := ⟨2, ![16384, 1024]⟩
abbrev SO : Shape := ⟨2, ![1024, 16384]⟩

theorem block_cols (v : SX.Idx → EReal) (c : Fin 32) (i : Fin 64) (k : Fin 512) :
    Layout.block ⟨2, ![64, 512]⟩ ⟨2, ![64, 16384]⟩ 1 32 c v (by decide) (ix2 i k) = v (ix2 i (pos c k)) :=
  congrArg v (funext fun a => by fin_cases a <;> exact Fin.ext rfl)
theorem block_rows (v : SI.Idx → EReal) (c : Fin 32) (k : Fin 512) (j : Fin 1024) :
    Layout.block ⟨2, ![512, 1024]⟩ ⟨2, ![16384, 1024]⟩ 0 32 c v (by decide) (ix2 k j) = v (ix2 (pos c k) j) :=
  congrArg v (funext fun a => by fin_cases a <;> exact Fin.ext rfl)
theorem block_out (v : SO.Idx → EReal) (c : Fin 32) (q : Fin 1024) (k : Fin 512) :
    Layout.block ⟨2, ![1024, 512]⟩ ⟨2, ![1024, 16384]⟩ 1 32 c v (by decide) (ix2 q k) = v (ix2 q (pos c k)) :=
  congrArg v (funext fun a => by fin_cases a <;> exact Fin.ext rfl)

/-! ## The layer -/

/-- A layer of the reference. -/
def layerR (x : FVec Ideal Cert.ReferenceIdeal.S64x16384 .bf16) (wi : FVec Ideal Cert.ReferenceIdeal.S16384x1024 .bf16)
    (wo : FVec Ideal Cert.ReferenceIdeal.S1024x16384 .bf16) : FVec Ideal Cert.ReferenceIdeal.S64x16384 .f32 :=
  Host.dotGeneral Cert.ReferenceIdeal.dot_S64x1024_S1024x16384_S64x16384_1_0_0_1_n_n none
    (truncf .bf16 (maximumf (Host.dotGeneral Cert.ReferenceIdeal.dot_S64x16384_S16384x1024_S64x1024_1_0_0_1_n_n none x wi)
      (broadcastInDim Cert.ReferenceIdeal.S64x1024 ![] Cert.ReferenceIdeal.Gen.bcast_S_S64x1024 (constant Cert.ReferenceIdeal.S_ .f32 0x00000000#32)))
      Cert.ReferenceIdeal.Gen.bitsLt_bf16_f32) wo

theorem rounded_apply (A B : FVec Ideal Cert.ReferenceIdeal.S64x1024 .f32) (i : Cert.ReferenceIdeal.S64x1024.Idx) :
    truncf .bf16 (maximumf A B) Cert.ReferenceIdeal.Gen.bitsLt_bf16_f32 i = max (A i : EReal) (B i) := rfl
theorem zeros_apply (i : Cert.ReferenceIdeal.S64x1024.Idx) :
    (broadcastInDim Cert.ReferenceIdeal.S64x1024 ![] Cert.ReferenceIdeal.Gen.bcast_S_S64x1024
      (constant (F := Ideal) Cert.ReferenceIdeal.S_ .f32 0x00000000#32) i : EReal) = 0 := Ideal.ofBits_zero_f32

theorem layerR_apply (x : FVec Ideal Cert.ReferenceIdeal.S64x16384 .bf16) (wi : FVec Ideal Cert.ReferenceIdeal.S16384x1024 .bf16)
    (wo : FVec Ideal Cert.ReferenceIdeal.S1024x16384 .bf16) (i : Fin 64) (J : Fin 16384) :
    layerR x wi wo (ix2 i J) = ∑ q : Fin 1024, max (∑ k : Fin 16384, (x (ix2 i k) : EReal) * wi (ix2 k q)) 0 * wo (ix2 q J) := by
  unfold layerR
  refine (dotGeneral_plain_apply none _ wo i J).trans (Finset.sum_congr rfl fun q _ => congrArg (fun a : EReal => a * wo (ix2 q J)) ?_)
  refine (rounded_apply _ _ _).trans ?_
  exact congrArg₂ max (dotGeneral_plain_apply none x wi i q) (zeros_apply _)

theorem layer (X : Dev nD → FVec Ideal S64x512 .bf16) (wi : ℕ → Dev nD → Vec Ideal S512x1024 .bf16) (wo : ℕ → Dev nD → Vec Ideal S1024x512 .bf16)
    (l : ℕ) (x : FVec Ideal SX .bf16) (Wi : FVec Ideal SI .bf16) (Wo : FVec Ideal SO .bf16)
    (hX : ∀ c, X c = Layout.block ⟨2, ![64, 512]⟩ ⟨2, ![64, 16384]⟩ 1 32 c x)
    (hi : ∀ c, wi l c = Layout.block ⟨2, ![512, 1024]⟩ ⟨2, ![16384, 1024]⟩ 0 32 c Wi)
    (ho : ∀ c, wo l c = Layout.block ⟨2, ![1024, 512]⟩ ⟨2, ![1024, 16384]⟩ 1 32 c Wo) (c : Dev nD) :
    outOf wi wo X l c = Layout.block ⟨2, ![64, 512]⟩ ⟨2, ![64, 16384]⟩ 1 32 c (layerR x Wi Wo) := by
  have part : ∀ (d : Dev nD) (i : Fin 64) (q : Fin 1024),
      (partP (X d) (wi l d) (ix2 i q) : EReal) = ∑ k : Fin 512, (x (ix2 i (pos d k)) : EReal) * Wi (ix2 (pos d k) q) := fun d i q => by
    rw [partP_apply, hX d, hi d]
    exact Finset.sum_congr rfl fun k _ => congrArg₂ (· * ·) (block_cols x d i k) (block_rows Wi d k q)
  have first : ∀ (i : Fin 64) (k : Fin 512), (total wi X l 0 c (ix2 i k) : EReal)
      = ∑ K : Fin 16384, (x (ix2 i K) : EReal) * Wi (ix2 K (Fin.castAdd 512 k : Fin (512 + 512))) := fun i k => by
    unfold total
    rw [acc_all, sum_blocks]
    exact Finset.sum_congr rfl fun d _ => (half0_apply _ i k).trans (part d i _)
  have second : ∀ (i : Fin 64) (k : Fin 512), (total wi X l 1 c (ix2 i k) : EReal)
      = ∑ K : Fin 16384, (x (ix2 i K) : EReal) * Wi (ix2 K (Fin.natAdd 512 k : Fin (512 + 512))) := fun i k => by
    unfold total
    rw [acc_all, sum_blocks]
    exact Finset.sum_congr rfl fun d _ => (half1_apply _ i k).trans (part d i _)
  have out : ∀ (i : Fin 64) (j : Fin 512), (outOf wi wo X l c (ix2 i j) : EReal) = layerR x Wi Wo (ix2 i (pos c j)) := fun i j => by
    refine Eq.trans ?_ ((layerR_apply x Wi Wo i (pos c j)).trans (sum_halves _)).symm
    unfold outOf
    rw [outP_apply, ho c]
    exact congrArg₂ (fun a b : EReal => a + b)
      (Finset.sum_congr rfl fun k _ => congrArg₂ (fun a b : EReal => max a 0 * b) (first _ k) (block_out Wo c _ _))
      (Finset.sum_congr rfl fun k _ => congrArg₂ (fun a b : EReal => max a 0 * b) (second _ k) (block_out Wo c _ _))
  funext i
  obtain ⟨a, b, rfl⟩ : ∃ (a : Fin 64) (b : Fin 512), i = ix2 a b := ⟨i 0, i 1, eq_ix2 i⟩
  exact (out a b).trans (block_cols (layerR x Wi Wo) c a b).symm

/-! ## The three layers -/

/-- The kernel's result on device `c` is block `c` of the three layers of the reference. -/
theorem result_block (x : Dev nD → Vec Ideal S64x512 .bf16) (wi : ℕ → Dev nD → Vec Ideal S512x1024 .bf16) (wo : ℕ → Dev nD → Vec Ideal S1024x512 .bf16)
    (xr : FVec Ideal SX .bf16) (Wi : ℕ → FVec Ideal SI .bf16) (Wo : ℕ → FVec Ideal SO .bf16)
    (hx : ∀ c, x c = Layout.block ⟨2, ![64, 512]⟩ ⟨2, ![64, 16384]⟩ 1 32 c xr)
    (hi : ∀ l < 3, ∀ c, wi l c = Layout.block ⟨2, ![512, 1024]⟩ ⟨2, ![16384, 1024]⟩ 0 32 c (Wi l))
    (ho : ∀ l < 3, ∀ c, wo l c = Layout.block ⟨2, ![1024, 512]⟩ ⟨2, ![1024, 16384]⟩ 1 32 c (Wo l)) (c : Dev nD) :
    result x wi wo c = Layout.block ⟨2, ![64, 512]⟩ ⟨2, ![64, 16384]⟩ 1 32 c
      (layerR (truncf .bf16 (layerR (truncf .bf16 (layerR xr (Wi 0) (Wo 0)) Cert.ReferenceIdeal.Gen.bitsLt_bf16_f32) (Wi 1) (Wo 1))
        Cert.ReferenceIdeal.Gen.bitsLt_bf16_f32) (Wi 2) (Wo 2)) := by
  have h0 : ∀ c, xs x wi wo 0 c = Layout.block ⟨2, ![64, 512]⟩ ⟨2, ![64, 16384]⟩ 1 32 c xr := fun c =>
    (shapeCast_self (x c) _).trans (hx c)
  have h1 := fun c => layer (xs x wi wo 0) wi wo 0 xr (Wi 0) (Wo 0) h0 (hi 0 (by decide)) (ho 0 (by decide)) c
  have h2 := fun c => layer (xs x wi wo 1) wi wo 1 (truncf .bf16 (layerR xr (Wi 0) (Wo 0)) Cert.ReferenceIdeal.Gen.bitsLt_bf16_f32) (Wi 1) (Wo 1)
    (fun c => h1 c) (hi 1 (by decide)) (ho 1 (by decide)) c
  exact layer (xs x wi wo 2) wi wo 2 _ (Wi 2) (Wo 2) (fun c => h2 c) (hi 2 (by decide)) (ho 2 (by decide)) c

end Cert.KernelIdeal.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.Value.Layer
public import Idealize.ShloMosaic.Adequacy
public import Idealize.ShloMosaic.Init

@[expose] public section

noncomputable section

namespace Cert.Proof

open Idealize.ShloMosaic Idealize.SL.Sem Cert.Kernel

/-- The kernel ends, its arguments are as they were, and every counter is at zero. -/
theorem frame_kernel : Cert.quiescent_Kernel := fun m ρ _ =>
  (θ_run Cert.Kernel.defs _ _).mono (fun r h => ⟨fun c =>
    ⟨(h.1 c 0).trans (Cert.Kernel.AllReduce.final_in m ρ c 0 rfl), (h.1 c 1).trans (Cert.Kernel.AllReduce.final_in m ρ c 1 rfl),
      (h.1 c 3).trans (Cert.Kernel.AllReduce.final_in m ρ c 3 rfl), (h.1 c 5).trans (Cert.Kernel.AllReduce.final_in m ρ c 5 rfl),
      (h.1 c 2).trans (Cert.Kernel.AllReduce.final_in m ρ c 2 rfl), (h.1 c 4).trans (Cert.Kernel.AllReduce.final_in m ρ c 4 rfl),
      (h.1 c 6).trans (Cert.Kernel.AllReduce.final_in m ρ c 6 rfl)⟩, h.2⟩)
    (Cert.Kernel.AllReduce.run_main (F := Bits) m ρ)

/-- The same of the kernel over the extended reals. -/
theorem frame_kernelIdeal : Cert.quiescent_KernelIdeal := fun m ρ _ =>
  (θ_run Cert.KernelIdeal.defs _ _).mono (fun r h => ⟨fun c =>
    ⟨(h.1 c 0).trans (Cert.KernelIdeal.AllReduce.final_in m ρ c 0 rfl), (h.1 c 1).trans (Cert.KernelIdeal.AllReduce.final_in m ρ c 1 rfl),
      (h.1 c 3).trans (Cert.KernelIdeal.AllReduce.final_in m ρ c 3 rfl), (h.1 c 5).trans (Cert.KernelIdeal.AllReduce.final_in m ρ c 5 rfl),
      (h.1 c 2).trans (Cert.KernelIdeal.AllReduce.final_in m ρ c 2 rfl), (h.1 c 4).trans (Cert.KernelIdeal.AllReduce.final_in m ρ c 4 rfl),
      (h.1 c 6).trans (Cert.KernelIdeal.AllReduce.final_in m ρ c 6 rfl)⟩, h.2⟩)
    (Cert.KernelIdeal.AllReduce.run_main (F := Ideal) m ρ)

/-- And of the reference, which declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals each device's result is its block of the reference's. -/
theorem values : Cert.algebraic_KernelIdeal_ReferenceIdeal := fun m g m' g' _ hargs => by
  refine ⟨_, (θ_run Cert.KernelIdeal.defs _ _).mono (fun r h c => ⟨(h c).1.trans ?_, (h c).2⟩)
      (Cert.KernelIdeal.AllReduce.run_result (F := Ideal) m g),
    (θ_run Cert.ReferenceIdeal.defs _ _).mono (fun r h => h 0) (Cert.ReferenceIdeal.Value.run (F := Ideal) m' g')⟩
  exact Cert.KernelIdeal.AllReduce.result_block _ _ _
    (m' (((0 : Dev Cert.ReferenceIdeal.nD).tc : Thread Cert.ReferenceIdeal.nD Cert.ReferenceIdeal.τ).loc Cert.ReferenceIdeal.main_arg0))
    (fun l => match l with
      | 0 => m' (((0 : Dev Cert.ReferenceIdeal.nD).tc : Thread Cert.ReferenceIdeal.nD Cert.ReferenceIdeal.τ).loc Cert.ReferenceIdeal.main_arg1)
      | 1 => m' (((0 : Dev Cert.ReferenceIdeal.nD).tc : Thread Cert.ReferenceIdeal.nD Cert.ReferenceIdeal.τ).loc Cert.ReferenceIdeal.main_arg2)
      | _ => m' (((0 : Dev Cert.ReferenceIdeal.nD).tc : Thread Cert.ReferenceIdeal.nD Cert.ReferenceIdeal.τ).loc Cert.ReferenceIdeal.main_arg3))
    (fun l => match l with
      | 0 => m' (((0 : Dev Cert.ReferenceIdeal.nD).tc : Thread Cert.ReferenceIdeal.nD Cert.ReferenceIdeal.τ).loc Cert.ReferenceIdeal.main_arg4)
      | 1 => m' (((0 : Dev Cert.ReferenceIdeal.nD).tc : Thread Cert.ReferenceIdeal.nD Cert.ReferenceIdeal.τ).loc Cert.ReferenceIdeal.main_arg5)
      | _ => m' (((0 : Dev Cert.ReferenceIdeal.nD).tc : Thread Cert.ReferenceIdeal.nD Cert.ReferenceIdeal.τ).loc Cert.ReferenceIdeal.main_arg6))
    (fun c => (Cert.KernelIdeal.AllReduce.xOf_eq m c).trans (hargs c).1)
    (fun l hl c => match l, hl with
      | 0, _ => (Cert.KernelIdeal.AllReduce.wiOf_0 m c).trans (hargs c).2.1
      | 1, _ => (Cert.KernelIdeal.AllReduce.wiOf_1 m c).trans (hargs c).2.2.1
      | 2, _ => (Cert.KernelIdeal.AllReduce.wiOf_2 m c).trans (hargs c).2.2.2.1)
    (fun l hl c => match l, hl with
      | 0, _ => (Cert.KernelIdeal.AllReduce.woOf_0 m c).trans (hargs c).2.2.2.2.1
      | 1, _ => (Cert.KernelIdeal.AllReduce.woOf_1 m c).trans (hargs c).2.2.2.2.2.1
      | 2, _ => (Cert.KernelIdeal.AllReduce.woOf_2 m c).trans (hargs c).2.2.2.2.2.2)
    _

theorem claim : Cert.Claim := ⟨Cert.Kernel.Gen.facts, Cert.KernelIdeal.Gen.facts, Cert.ReferenceIdeal.Gen.facts,
  frame_kernel, frame_kernelIdeal, frame_reference, trivial, values⟩

end Cert.Proof

end
